-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x32x32 : Shape := ⟨4, ![32, 768, 32, 32]⟩
abbrev S32x32x32 : Shape := ⟨3, ![32, 32, 32]⟩
abbrev S32x64 : Shape := ⟨2, ![32, 64]⟩
abbrev S1024x64 : Shape := ⟨2, ![1024, 64]⟩
abbrev S32x768x1024 : Shape := ⟨3, ![32, 768, 1024]⟩
abbrev S32x1x1024 : Shape := ⟨3, ![32, 1, 1024]⟩
abbrev S32x64x1 : Shape := ⟨3, ![32, 64, 1]⟩
abbrev S2x768x1024 : Shape := ⟨3, ![2, 768, 1024]⟩
abbrev S2x1x1024 : Shape := ⟨3, ![2, 1, 1024]⟩
abbrev S2x64x1 : Shape := ⟨3, ![2, 64, 1]⟩
abbrev S1x768x1024 : Shape := ⟨3, ![1, 768, 1024]⟩
abbrev S768x1024 : Shape := ⟨2, ![768, 1024]⟩
abbrev S1x1x1024 : Shape := ⟨3, ![1, 1, 1024]⟩
abbrev S1x1024 : Shape := ⟨2, ![1, 1024]⟩
abbrev S1x64x1 : Shape := ⟨3, ![1, 64, 1]⟩
abbrev S64x1 : Shape := ⟨2, ![64, 1]⟩
abbrev S768x64 : Shape := ⟨2, ![768, 64]⟩
abbrev S64 : Shape := ⟨1, ![64]⟩
abbrev S1x64 : Shape := ⟨2, ![1, 64]⟩
abbrev S1024 : Shape := ⟨1, ![1024]⟩
abbrev S64x1024 : Shape := ⟨2, ![64, 1024]⟩
abbrev S2x1024 : Shape := ⟨2, ![2, 1024]⟩
abbrev S64x2 : Shape := ⟨2, ![64, 2]⟩

abbrev nBuf : Space → Nat
  | .hbm => 9
  | .vmem => 9
  | .smem => 0
  | _ => 0

abbrev bufTy : (tb : Table) → Fin (tcTables nBuf tb) → BufTy
  | .hbm, ⟨0, _⟩ => ⟨S32x768x32x32, .f32⟩
  | .hbm, ⟨1, _⟩ => ⟨S32x32x32, .f32⟩
  | .hbm, ⟨2, _⟩ => ⟨S32x64, .f32⟩
  | .hbm, ⟨3, _⟩ => ⟨S1024x64, .f32⟩
  | .hbm, ⟨4, _⟩ => ⟨S32x768x1024, .f32⟩
  | .hbm, ⟨5, _⟩ => ⟨S32x1x1024, .f32⟩
  | .hbm, ⟨6, _⟩ => ⟨S32x64x1, .f32⟩
  | .hbm, ⟨7, _⟩ => ⟨S32x1x1024, .f32⟩
  | .hbm, ⟨8, _⟩ => ⟨S32x32x32, .f32⟩
  | .local _ .vmem, ⟨0, _⟩ => ⟨S2x768x1024, .f32⟩
  | .local _ .vmem, ⟨1, _⟩ => ⟨S2x768x1024, .f32⟩
  | .local _ .vmem, ⟨2, _⟩ => ⟨S1024x64, .f32⟩
  | .local _ .vmem, ⟨3, _⟩ => ⟨S2x1x1024, .f32⟩
  | .local _ .vmem, ⟨4, _⟩ => ⟨S2x1x1024, .f32⟩
  | .local _ .vmem, ⟨5, _⟩ => ⟨S2x64x1, .f32⟩
  | .local _ .vmem, ⟨6, _⟩ => ⟨S2x64x1, .f32⟩
  | .local _ .vmem, ⟨7, _⟩ => ⟨S2x1x1024, .f32⟩
  | .local _ .vmem, ⟨8, _⟩ => ⟨S2x1x1024, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x768x32x32 : Shape := ⟨4, ![32, 768, 32, 32]⟩
abbrev S32x32x32 : Shape := ⟨3, ![32, 32, 32]⟩
abbrev S32x768x8x4x8x4 : Shape := ⟨6, ![32, 768, 8, 4, 8, 4]⟩
abbrev S_ : Shape := ⟨0, ![]⟩
abbrev S32x768x8x8 : Shape := ⟨4, ![32, 768, 8, 8]⟩
abbrev S32x768x64 : Shape := ⟨3, ![32, 768, 64]⟩
abbrev S32x64x768 : Shape := ⟨3, ![32, 64, 768]⟩
abbrev S32x768x1024 : Shape := ⟨3, ![32, 768, 1024]⟩
abbrev S32x1024x768 : Shape := ⟨3, ![32, 1024, 768]⟩
abbrev S32x64 : Shape := ⟨2, ![32, 64]⟩
abbrev S32x64x1 : Shape := ⟨3, ![32, 64, 1]⟩
abbrev S32x1024 : Shape := ⟨2, ![32, 1024]⟩
abbrev S32x1024x1 : Shape := ⟨3, ![32, 1024, 1]⟩
abbrev S32x64x1024 : Shape := ⟨3, ![32, 64, 1024]⟩
abbrev S32 : Shape := ⟨1, ![32]⟩
abbrev S32x1 : Shape := ⟨2, ![32, 1]⟩
abbrev S1024 : Shape := ⟨1, ![1024]⟩
abbrev S1x1024 : Shape := ⟨2, ![1, 1024]⟩
abbrev S32x1024x3 : Shape := ⟨3, ![32, 1024, 3]⟩
abbrev S32x1x1024 : Shape := ⟨3, ![32, 1, 1024]⟩
abbrev S1 : Shape := ⟨1, ![1]⟩
abbrev S2 : Shape := ⟨1, ![2]⟩
abbrev S1x1 : Shape := ⟨2, ![1, 1]⟩

abbrev nBuf : Space → Nat
  | .hbm => 391
  | .vmem => 0
  | .smem => 0
  | _ => 0

abbrev hbmTy0_0 (i : Nat) : BufTy := match i % 128 with
  | 0 => ⟨S32x768x32x32, .f32⟩
  | 1 => ⟨S32x32x32, .f32⟩
  | 2 => ⟨S32x768x8x4x8x4, .f32⟩
  | 3 => ⟨S_, .f32⟩
  | 4 => ⟨S32x768x8x8, .f32⟩
  | 5 => ⟨S_, .f32⟩
  | 6 => ⟨S32x768x8x8, .f32⟩
  | 7 => ⟨S32x768x8x8, .f32⟩
  | 8 => ⟨S32x768x64, .f32⟩
  | 9 => ⟨S32x64x768, .f32⟩
  | 10 => ⟨S32x768x1024, .f32⟩
  | 11 => ⟨S32x1024x768, .f32⟩
  | 12 => ⟨S32x64x768, .f32⟩
  | 13 => ⟨S_, .f32⟩
  | 14 => ⟨S32x64, .f32⟩
  | 15 => ⟨S32x64x1, .f32⟩
  | 16 => ⟨S32x64x1, .f32⟩
  | 17 => ⟨S_, .f32⟩
  | 18 => ⟨S32x64x1, .f32⟩
  | 19 => ⟨S32x64x1, .f32⟩
  | 20 => ⟨S32x64x768, .f32⟩
  | 21 => ⟨S32x64x768, .f32⟩
  | 22 => ⟨S32x1024x768, .f32⟩
  | 23 => ⟨S_, .f32⟩
  | 24 => ⟨S32x1024, .f32⟩
  | 25 => ⟨S32x1024x1, .f32⟩
  | 26 => ⟨S32x1024x1, .f32⟩
  | 27 => ⟨S_, .f32⟩
  | 28 => ⟨S32x1024x1, .f32⟩
  | 29 => ⟨S32x1024x1, .f32⟩
  | 30 => ⟨S32x1024x768, .f32⟩
  | 31 => ⟨S32x1024x768, .f32⟩
  | 32 => ⟨S32x768x1024, .f32⟩
  | 33 => ⟨S32x64x1024, .f32⟩
  | 34 => ⟨S32x64x1024, .f32⟩
  | 35 => ⟨S32x64x1024, .f32⟩
  | 36 => ⟨S_, .f32⟩
  | 37 => ⟨S32x64x1024, .f32⟩
  | 38 => ⟨S32x64x1024, .f32⟩
  | 39 => ⟨S_, .f32⟩
  | 40 => ⟨S32x64x1024, .f32⟩
  | 41 => ⟨S32x64x1024, .f32⟩
  | 42 => ⟨S32x64x1024, .i32⟩
  | 43 => ⟨S_, .f32⟩
  | 44 => ⟨S_, .i32⟩
  | 45 => ⟨S32x1024, .f32⟩
  | 46 => ⟨S32x1024, .i32⟩
  | 47 => ⟨S32, .i32⟩
  | 48 => ⟨S32x1, .i32⟩
  | 49 => ⟨S1024, .i32⟩
  | 50 => ⟨S1x1024, .i32⟩
  | 51 => ⟨S_, .f32⟩
  | 52 => ⟨S32x64x1024, .f32⟩
  | 53 => ⟨S_, .i32⟩
  | 54 => ⟨S32x1, .i32⟩
  | 55 => ⟨S32x1, .i1⟩
  | 56 => ⟨S_, .i32⟩
  | 57 => ⟨S32x1, .i32⟩
  | 58 => ⟨S32x1, .i32⟩
  | 59 => ⟨S32x1, .i32⟩
  | 60 => ⟨S_, .i32⟩
  | 61 => ⟨S32x1024, .i32⟩
  | 62 => ⟨S32x1024, .i1⟩
  | 63 => ⟨S_, .i32⟩
  | 64 => ⟨S32x1024, .i32⟩
  | 65 => ⟨S32x1024, .i32⟩
  | 66 => ⟨S32x1024, .i32⟩
  | 67 => ⟨S_, .i32⟩
  | 68 => ⟨S1x1024, .i32⟩
  | 69 => ⟨S1x1024, .i1⟩
  | 70 => ⟨S_, .i32⟩
  | 71 => ⟨S1x1024, .i32⟩
  | 72 => ⟨S1x1024, .i32⟩
  | 73 => ⟨S1x1024, .i32⟩
  | 74 => ⟨S32x1024, .i32⟩
  | 75 => ⟨S32x1024, .i32⟩
  | 76 => ⟨S32x1024x1, .i32⟩
  | 77 => ⟨S32x1024x1, .i32⟩
  | 78 => ⟨S32x1024x1, .i32⟩
  | 79 => ⟨S32x1024x3, .i32⟩
  | 80 => ⟨S_, .f32⟩
  | 81 => ⟨S32x1024, .f32⟩
  | 82 => ⟨S32x64x1024, .f32⟩
  | 83 => ⟨S32x1024, .f32⟩
  | 84 => ⟨S32x1x1024, .f32⟩
  | 85 => ⟨S32x64x1024, .f32⟩
  | 86 => ⟨S32x64x1024, .f32⟩
  | 87 => ⟨S_, .f32⟩
  | 88 => ⟨S32x64, .f32⟩
  | 89 => ⟨S_, .f32⟩
  | 90 => ⟨S32x64, .f32⟩
  | 91 => ⟨S_, .f32⟩
  | 92 => ⟨S32x64, .f32⟩
  | 93 => ⟨S32x64, .f32⟩
  | 94 => ⟨S32x64, .f32⟩
  | 95 => ⟨S_, .f32⟩
  | 96 => ⟨S32x64, .f32⟩
  | 97 => ⟨S32x64, .f32⟩
  | 98 => ⟨S_, .f32⟩
  | 99 => ⟨S32x64, .f32⟩
  | 100 => ⟨S32x64, .f32⟩
  | 101 => ⟨S_, .f32⟩
  | 102 => ⟨S_, .f32⟩
  | 103 => ⟨S_, .f32⟩
  | 104 => ⟨S32x64, .f32⟩
  | 105 => ⟨S32x64, .f32⟩
  | 106 => ⟨S_, .f32⟩
  | 107 => ⟨S32x64, .f32⟩
  | 108 => ⟨S32x64, .f32⟩
  | 109 => ⟨S_, .i32⟩
  | 110 => ⟨S_, .i32⟩
  | 111 => ⟨S_, .i32⟩
  | 112 => ⟨S_, .i32⟩
  | 113 => ⟨S1, .i32⟩
  | 114 => ⟨S_, .i32⟩
  | 115 => ⟨S_, .i32⟩
  | 116 => ⟨S_, .i32⟩
  | 117 => ⟨S1, .i32⟩
  | 118 => ⟨S2, .i32⟩
  | 119 => ⟨S_, .f32⟩
  | 120 => ⟨S_, .f32⟩
  | 121 => ⟨S_, .f32⟩
  | 122 => ⟨S_, .f32⟩
  | 123 => ⟨S1x1, .f32⟩
  | 124 => ⟨S1x1, .f32⟩
  | 125 => ⟨S1, .i32⟩
  | 126 => ⟨S_, .i32⟩
  | 127 => ⟨S1, .i32⟩
  | _ => ⟨S32x768x32x32, .f32⟩

abbrev hbmTy0_1 (i : Nat) : BufTy := match i % 128 with
  | 0 => ⟨S_, .i32⟩
  | 1 => ⟨S32x64, .i64⟩
  | 2 => ⟨S32x64, .i64⟩
  | 3 => ⟨S_, .i64⟩
  | 4 => ⟨S32x64, .i64⟩
  | 5 => ⟨S32x64, .i64⟩
  | 6 => ⟨S_, .i64⟩
  | 7 => ⟨S32x64, .i64⟩
  | 8 => ⟨S32x64, .i64⟩
  | 9 => ⟨S32x64, .i64⟩
  | 10 => ⟨S_, .i64⟩
  | 11 => ⟨S32x64, .i64⟩
  | 12 => ⟨S32x64, .i64⟩
  | 13 => ⟨S32x64, .i32⟩
  | 14 => ⟨S32x64, .i32⟩
  | 15 => ⟨S_, .i32⟩
  | 16 => ⟨S_, .i32⟩
  | 17 => ⟨S_, .i32⟩
  | 18 => ⟨S32x64, .i32⟩
  | 19 => ⟨S32x64, .i32⟩
  | 20 => ⟨S32x64, .i32⟩
  | 21 => ⟨S32x64, .i32⟩
  | 22 => ⟨S32x64, .i32⟩
  | 23 => ⟨S_, .i32⟩
  | 24 => ⟨S32x64, .i32⟩
  | 25 => ⟨S32x64, .i32⟩
  | 26 => ⟨S_, .i32⟩
  | 27 => ⟨S32x64, .i32⟩
  | 28 => ⟨S32x64, .i32⟩
  | 29 => ⟨S32x64, .i32⟩
  | 30 => ⟨S32x64, .i32⟩
  | 31 => ⟨S32x64, .i32⟩
  | 32 => ⟨S_, .i32⟩
  | 33 => ⟨S32x64, .i32⟩
  | 34 => ⟨S32x64, .i32⟩
  | 35 => ⟨S_, .i32⟩
  | 36 => ⟨S32x64, .i32⟩
  | 37 => ⟨S32x64, .i32⟩
  | 38 => ⟨S32x64, .i32⟩
  | 39 => ⟨S32x64, .i32⟩
  | 40 => ⟨S32x64, .i32⟩
  | 41 => ⟨S_, .i32⟩
  | 42 => ⟨S32x64, .i32⟩
  | 43 => ⟨S32x64, .i32⟩
  | 44 => ⟨S_, .i32⟩
  | 45 => ⟨S32x64, .i32⟩
  | 46 => ⟨S32x64, .i32⟩
  | 47 => ⟨S32x64, .i32⟩
  | 48 => ⟨S32x64, .i32⟩
  | 49 => ⟨S32x64, .i32⟩
  | 50 => ⟨S_, .i32⟩
  | 51 => ⟨S32x64, .i32⟩
  | 52 => ⟨S32x64, .i32⟩
  | 53 => ⟨S_, .i32⟩
  | 54 => ⟨S32x64, .i32⟩
  | 55 => ⟨S32x64, .i32⟩
  | 56 => ⟨S32x64, .i32⟩
  | 57 => ⟨S32x64, .i32⟩
  | 58 => ⟨S32x64, .i32⟩
  | 59 => ⟨S32x64, .i32⟩
  | 60 => ⟨S32x64, .i32⟩
  | 61 => ⟨S32x64, .i32⟩
  | 62 => ⟨S_, .i32⟩
  | 63 => ⟨S32x64, .i32⟩
  | 64 => ⟨S32x64, .i32⟩
  | 65 => ⟨S32x64, .i32⟩
  | 66 => ⟨S_, .i32⟩
  | 67 => ⟨S32x64, .i32⟩
  | 68 => ⟨S32x64, .i32⟩
  | 69 => ⟨S_, .i32⟩
  | 70 => ⟨S32x64, .i32⟩
  | 71 => ⟨S32x64, .i32⟩
  | 72 => ⟨S32x64, .i32⟩
  | 73 => ⟨S32x64, .i32⟩
  | 74 => ⟨S32x64, .i32⟩
  | 75 => ⟨S_, .i32⟩
  | 76 => ⟨S32x64, .i32⟩
  | 77 => ⟨S32x64, .i32⟩
  | 78 => ⟨S_, .i32⟩
  | 79 => ⟨S32x64, .i32⟩
  | 80 => ⟨S32x64, .i32⟩
  | 81 => ⟨S32x64, .i32⟩
  | 82 => ⟨S32x64, .i32⟩
  | 83 => ⟨S32x64, .i32⟩
  | 84 => ⟨S_, .i32⟩
  | 85 => ⟨S32x64, .i32⟩
  | 86 => ⟨S32x64, .i32⟩
  | 87 => ⟨S_, .i32⟩
  | 88 => ⟨S32x64, .i32⟩
  | 89 => ⟨S32x64, .i32⟩
  | 90 => ⟨S32x64, .i32⟩
  | 91 => ⟨S32x64, .i32⟩
  | 92 => ⟨S32x64, .i32⟩
  | 93 => ⟨S_, .i32⟩
  | 94 => ⟨S32x64, .i32⟩
  | 95 => ⟨S32x64, .i32⟩
  | 96 => ⟨S_, .i32⟩
  | 97 => ⟨S32x64, .i32⟩
  | 98 => ⟨S32x64, .i32⟩
  | 99 => ⟨S32x64, .i32⟩
  | 100 => ⟨S32x64, .i32⟩
  | 101 => ⟨S32x64, .i32⟩
  | 102 => ⟨S32x64, .i32⟩
  | 103 => ⟨S32x64, .i32⟩
  | 104 => ⟨S32x64, .i32⟩
  | 105 => ⟨S_, .i32⟩
  | 106 => ⟨S32x64, .i32⟩
  | 107 => ⟨S32x64, .i32⟩
  | 108 => ⟨S32x64, .i32⟩
  | 109 => ⟨S_, .i32⟩
  | 110 => ⟨S32x64, .i32⟩
  | 111 => ⟨S32x64, .i32⟩
  | 112 => ⟨S_, .i32⟩
  | 113 => ⟨S32x64, .i32⟩
  | 114 => ⟨S32x64, .i32⟩
  | 115 => ⟨S32x64, .i32⟩
  | 116 => ⟨S32x64, .i32⟩
  | 117 => ⟨S32x64, .i32⟩
  | 118 => ⟨S_, .i32⟩
  | 119 => ⟨S32x64, .i32⟩
  | 120 => ⟨S32x64, .i32⟩
  | 121 => ⟨S_, .i32⟩
  | 122 => ⟨S32x64, .i32⟩
  | 123 => ⟨S32x64, .i32⟩
  | 124 => ⟨S32x64, .i32⟩
  | 125 => ⟨S32x64, .i32⟩
  | 126 => ⟨S32x64, .i32⟩
  | 127 => ⟨S_, .i32⟩
  | _ => ⟨S32x768x32x32, .f32⟩

abbrev hbmTy0_2 (i : Nat) : BufTy := match i % 128 with
  | 0 => ⟨S32x64, .i32⟩
  | 1 => ⟨S32x64, .i32⟩
  | 2 => ⟨S_, .i32⟩
  | 3 => ⟨S32x64, .i32⟩
  | 4 => ⟨S32x64, .i32⟩
  | 5 => ⟨S32x64, .i32⟩
  | 6 => ⟨S32x64, .i32⟩
  | 7 => ⟨S32x64, .i32⟩
  | 8 => ⟨S_, .i32⟩
  | 9 => ⟨S32x64, .i32⟩
  | 10 => ⟨S32x64, .i32⟩
  | 11 => ⟨S_, .i32⟩
  | 12 => ⟨S32x64, .i32⟩
  | 13 => ⟨S32x64, .i32⟩
  | 14 => ⟨S32x64, .i32⟩
  | 15 => ⟨S32x64, .i32⟩
  | 16 => ⟨S32x64, .i32⟩
  | 17 => ⟨S32x64, .i32⟩
  | 18 => ⟨S32x64, .i32⟩
  | 19 => ⟨S32x64, .i32⟩
  | 20 => ⟨S_, .i32⟩
  | 21 => ⟨S32x64, .i32⟩
  | 22 => ⟨S32x64, .i32⟩
  | 23 => ⟨S32x64, .i32⟩
  | 24 => ⟨S_, .i32⟩
  | 25 => ⟨S32x64, .i32⟩
  | 26 => ⟨S32x64, .i32⟩
  | 27 => ⟨S_, .i32⟩
  | 28 => ⟨S32x64, .i32⟩
  | 29 => ⟨S32x64, .i32⟩
  | 30 => ⟨S32x64, .i32⟩
  | 31 => ⟨S32x64, .i32⟩
  | 32 => ⟨S32x64, .i32⟩
  | 33 => ⟨S_, .i32⟩
  | 34 => ⟨S32x64, .i32⟩
  | 35 => ⟨S32x64, .i32⟩
  | 36 => ⟨S_, .i32⟩
  | 37 => ⟨S32x64, .i32⟩
  | 38 => ⟨S32x64, .i32⟩
  | 39 => ⟨S32x64, .i32⟩
  | 40 => ⟨S32x64, .i32⟩
  | 41 => ⟨S32x64, .i32⟩
  | 42 => ⟨S_, .i32⟩
  | 43 => ⟨S32x64, .i32⟩
  | 44 => ⟨S32x64, .i32⟩
  | 45 => ⟨S_, .i32⟩
  | 46 => ⟨S32x64, .i32⟩
  | 47 => ⟨S32x64, .i32⟩
  | 48 => ⟨S32x64, .i32⟩
  | 49 => ⟨S32x64, .i32⟩
  | 50 => ⟨S32x64, .i32⟩
  | 51 => ⟨S_, .i32⟩
  | 52 => ⟨S32x64, .i32⟩
  | 53 => ⟨S32x64, .i32⟩
  | 54 => ⟨S_, .i32⟩
  | 55 => ⟨S32x64, .i32⟩
  | 56 => ⟨S32x64, .i32⟩
  | 57 => ⟨S32x64, .i32⟩
  | 58 => ⟨S32x64, .i32⟩
  | 59 => ⟨S32x64, .i32⟩
  | 60 => ⟨S32x64, .i32⟩
  | 61 => ⟨S32x64, .i32⟩
  | 62 => ⟨S32x64, .i32⟩
  | 63 => ⟨S_, .i32⟩
  | 64 => ⟨S32x64, .i32⟩
  | 65 => ⟨S32x64, .i32⟩
  | 66 => ⟨S32x64, .i32⟩
  | 67 => ⟨S_, .i32⟩
  | 68 => ⟨S32x64, .i32⟩
  | 69 => ⟨S32x64, .i32⟩
  | 70 => ⟨S_, .i32⟩
  | 71 => ⟨S32x64, .i32⟩
  | 72 => ⟨S32x64, .i32⟩
  | 73 => ⟨S32x64, .i32⟩
  | 74 => ⟨S32x64, .i32⟩
  | 75 => ⟨S32x64, .i32⟩
  | 76 => ⟨S_, .i32⟩
  | 77 => ⟨S32x64, .i32⟩
  | 78 => ⟨S32x64, .i32⟩
  | 79 => ⟨S_, .i32⟩
  | 80 => ⟨S32x64, .i32⟩
  | 81 => ⟨S32x64, .i32⟩
  | 82 => ⟨S32x64, .i32⟩
  | 83 => ⟨S32x64, .i32⟩
  | 84 => ⟨S32x64, .i32⟩
  | 85 => ⟨S_, .i32⟩
  | 86 => ⟨S32x64, .i32⟩
  | 87 => ⟨S32x64, .i32⟩
  | 88 => ⟨S_, .i32⟩
  | 89 => ⟨S32x64, .i32⟩
  | 90 => ⟨S32x64, .i32⟩
  | 91 => ⟨S32x64, .i32⟩
  | 92 => ⟨S32x64, .i32⟩
  | 93 => ⟨S32x64, .i32⟩
  | 94 => ⟨S_, .i32⟩
  | 95 => ⟨S32x64, .i32⟩
  | 96 => ⟨S32x64, .i32⟩
  | 97 => ⟨S_, .i32⟩
  | 98 => ⟨S32x64, .i32⟩
  | 99 => ⟨S32x64, .i32⟩
  | 100 => ⟨S32x64, .i32⟩
  | 101 => ⟨S32x64, .i32⟩
  | 102 => ⟨S32x64, .i32⟩
  | 103 => ⟨S32x64, .i32⟩
  | 104 => ⟨S32x64, .i32⟩
  | 105 => ⟨S32x64, .i32⟩
  | 106 => ⟨S_, .i32⟩
  | 107 => ⟨S32x64, .i32⟩
  | 108 => ⟨S32x64, .i32⟩
  | 109 => ⟨S32x64, .i32⟩
  | 110 => ⟨S_, .i32⟩
  | 111 => ⟨S32x64, .i32⟩
  | 112 => ⟨S32x64, .i32⟩
  | 113 => ⟨S_, .i32⟩
  | 114 => ⟨S32x64, .i32⟩
  | 115 => ⟨S32x64, .i32⟩
  | 116 => ⟨S32x64, .f32⟩
  | 117 => ⟨S_, .f32⟩
  | 118 => ⟨S32x64, .f32⟩
  | 119 => ⟨S32x64, .f32⟩
  | 120 => ⟨S1x1, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .i1⟩
  | _ => ⟨S32x768x32x32, .f32⟩

abbrev hbmTy0_3 (i : Nat) : BufTy := match i % 128 with
  | 0 => ⟨S32x64, .f32⟩
  | 1 => ⟨S32x64x1, .f32⟩
  | 2 => ⟨S32x64x1024, .f32⟩
  | 3 => ⟨S32x64x1024, .f32⟩
  | 4 => ⟨S_, .f32⟩
  | 5 => ⟨S32x1024, .f32⟩
  | 6 => ⟨S32x32x32, .f32⟩
  | _ => ⟨S32x768x32x32, .f32⟩

abbrev hbmTy (i : Nat) : BufTy := match i / 128 with
  | 0 => hbmTy0_0 i
  | 1 => hbmTy0_1 i
  | 2 => hbmTy0_2 i
  | 3 => hbmTy0_3 i
  | _ => ⟨S32x768x32x32, .f32⟩

abbrev bufTy : (tb : Table) → Fin (tcTables nBuf tb) → BufTy
  | .hbm, ⟨i, _⟩ => hbmTy i
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_call2_v0 : Ref sig .tc := ⟨.hbm, 42, rfl⟩
abbrev main_call2_cst : Ref sig .tc := ⟨.hbm, 43, rfl⟩
abbrev main_call2_c : Ref sig .tc := ⟨.hbm, 44, rfl⟩
abbrev main_call2_v1_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call3_cst : Ref sig .tc := ⟨.hbm, 95, rfl⟩
abbrev main_call3_v0 : Ref sig .tc := ⟨.hbm, 96, rfl⟩
abbrev main_v64 : Ref sig .tc := ⟨.hbm, 97, rfl⟩
abbrev main_cst_15 : Ref sig .tc := ⟨.hbm, 98, rfl⟩
abbrev main_v65 : Ref sig .tc := ⟨.hbm, 99, rfl⟩
abbrev main_v66 : Ref sig .tc := ⟨.hbm, 100, rfl⟩
abbrev main_cst_16 : Ref sig .tc := ⟨.hbm, 101, rfl⟩
abbrev main_cst_17 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v67 : Ref sig .tc := ⟨.hbm, 108, rfl⟩
abbrev main_c_18 : Ref sig .tc := ⟨.hbm, 109, rfl⟩
abbrev main_c_19 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_20 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call5_cst : Ref sig .tc := ⟨.hbm, 119, rfl⟩
abbrev main_call5_cst_0 : Ref sig .tc := ⟨.hbm, 120, rfl⟩
abbrev main_call5_call0_v0 : Ref sig .tc := ⟨.hbm, 121, rfl⟩
abbrev main_call5_call0_v1 : Ref sig .tc := ⟨.hbm, 122, rfl⟩
abbrev main_call5_call0_v2 : Ref sig .tc := ⟨.hbm, 123, rfl⟩
abbrev main_call5_call0_v3 : Ref sig .tc := ⟨.hbm, 124, rfl⟩
abbrev main_call5_call0_v4 : Ref sig .tc := ⟨.hbm, 125, rfl⟩
abbrev main_call5_call0_v5 : Ref sig .tc := ⟨.hbm, 126, rfl⟩
abbrev main_call5_call0_v6 : Ref sig .tc := ⟨.hbm, 127, rfl⟩
abbrev main_call5_call0_v7 : Ref sig .tc := ⟨.hbm, 128, rfl⟩
abbrev main_call5_call0_v8 : Ref sig .tc := ⟨.hbm, 129, rfl⟩
abbrev main_call5_call0_v9 : Ref sig .tc := ⟨.hbm, 130, rfl⟩
abbrev main_call5_call0_c : Ref sig .tc := ⟨.hbm, 131, rfl⟩
abbrev main_call5_call0_v10 : Ref sig .tc := ⟨.hbm, 132, rfl⟩
abbrev main_call5_call0_v11 : Ref sig .tc := ⟨.hbm, 133, rfl⟩
abbrev main_call5_call0_c_0 : Ref sig .tc := ⟨.hbm, 134, rfl⟩
abbrev main_call5_call0_v12 : Ref sig .tc := ⟨.hbm, 135, rfl⟩
abbrev main_call5_call0_v13 : Ref sig .tc := ⟨.hbm, 136, rfl⟩
abbrev main_call5_call0_v14 : Ref sig .tc := ⟨.hbm, 137, rfl⟩
abbrev main_call5_call0_c_1 : Ref sig .tc := ⟨.hbm, 138, rfl⟩
abbrev main_call5_call0_v15 : Ref sig .tc := ⟨.hbm, 139, rfl⟩
abbrev main_call5_call0_v16 : Ref sig .tc := ⟨.hbm, 140, rfl⟩
abbrev main_call5_call0_v17 : Ref sig .tc := ⟨.hbm, 141, rfl⟩
abbrev main_call5_call0_v18 : Ref sig .tc := ⟨.hbm, 142, rfl⟩
abbrev main_call5_call0_call0_v0 : Ref sig .tc := ⟨.hbm, 143, rfl⟩
abbrev main_call5_call0_call0_c : Ref sig .tc := ⟨.hbm, 144, rfl⟩
abbrev main_call5_call0_call0_v1 : Ref sig .tc := ⟨.hbm, 145, rfl⟩
abbrev main_call5_call0_call0_v2 : Ref sig .tc := ⟨.hbm, 146, rfl⟩
abbrev main_call5_call0_call0_v3 : Ref sig .tc := ⟨.hbm, 147, rfl⟩
abbrev main_call5_call0_call0_v4 : Ref sig .tc := ⟨.hbm, 148, rfl⟩
abbrev main_call5_call0_call0_v5 : Ref sig .tc := ⟨.hbm, 149, rfl⟩
abbrev main_call5_call0_call0_v6 : Ref sig .tc := ⟨.hbm, 150, rfl⟩
abbrev main_call5_call0_call0_c_0 : Ref sig .tc := ⟨.hbm, 151, rfl⟩
abbrev main_call5_call0_call0_v7 : Ref sig .tc := ⟨.hbm, 152, rfl⟩
abbrev main_call5_call0_call0_v8 : Ref sig .tc := ⟨.hbm, 153, rfl⟩
abbrev main_call5_call0_call0_c_1 : Ref sig .tc := ⟨.hbm, 154, rfl⟩
abbrev main_call5_call0_call0_v9 : Ref sig .tc := ⟨.hbm, 155, rfl⟩
abbrev main_call5_call0_call0_v10 : Ref sig .tc := ⟨.hbm, 156, rfl⟩
abbrev main_call5_call0_call0_v11 : Ref sig .tc := ⟨.hbm, 157, rfl⟩
abbrev main_call5_call0_call0_v12 : Ref sig .tc := ⟨.hbm, 158, rfl⟩
abbrev main_call5_call0_call0_v13 : Ref sig .tc := ⟨.hbm, 159, rfl⟩
abbrev main_call5_call0_call0_c_2 : Ref sig .tc := ⟨.hbm, 160, rfl⟩
abbrev main_call5_call0_call0_v14 : Ref sig .tc := ⟨.hbm, 161, rfl⟩
abbrev main_call5_call0_call0_v15 : Ref sig .tc := ⟨.hbm, 162, rfl⟩
abbrev main_call5_call0_call0_c_3 : Ref sig .tc := ⟨.hbm, 163, rfl⟩
abbrev main_call5_call0_call0_v16 : Ref sig .tc := ⟨.hbm, 164, rfl⟩
abbrev main_call5_call0_call0_v17 : Ref sig .tc := ⟨.hbm, 165, rfl⟩
abbrev main_call5_call0_call0_v18 : Ref sig .tc := ⟨.hbm, 166, rfl⟩
abbrev main_call5_call0_call0_v19 : Ref sig .tc := ⟨.hbm, 167, rfl⟩
abbrev main_call5_call0_call0_v20 : Ref sig .tc := ⟨.hbm, 168, rfl⟩
abbrev main_call5_call0_call0_c_4 : Ref sig .tc := ⟨.hbm, 169, rfl⟩
abbrev main_call5_call0_call0_v21 : Ref sig .tc := ⟨.hbm, 170, rfl⟩
abbrev main_call5_call0_call0_v22 : Ref sig .tc := ⟨.hbm, 171, rfl⟩
abbrev main_call5_call0_call0_c_5 : Ref sig .tc := ⟨.hbm, 172, rfl⟩
abbrev main_call5_call0_call0_v23 : Ref sig .tc := ⟨.hbm, 173, rfl⟩
abbrev main_call5_call0_call0_v24 : Ref sig .tc := ⟨.hbm, 174, rfl⟩
abbrev main_call5_call0_call0_v25 : Ref sig .tc := ⟨.hbm, 175, rfl⟩
abbrev main_call5_call0_call0_v26 : Ref sig .tc := ⟨.hbm, 176, rfl⟩
abbrev main_call5_call0_call0_v27 : Ref sig .tc := ⟨.hbm, 177, rfl⟩
abbrev main_call5_call0_call0_c_6 : Ref sig .tc := ⟨.hbm, 178, rfl⟩
abbrev main_call5_call0_call0_v28 : Ref sig .tc := ⟨.hbm, 179, rfl⟩
abbrev main_call5_call0_call0_v29 : Ref sig .tc := ⟨.hbm, 180, rfl⟩
abbrev main_call5_call0_call0_c_7 : Ref sig .tc := ⟨.hbm, 181, rfl⟩
abbrev main_call5_call0_call0_v30 : Ref sig .tc := ⟨.hbm, 182, rfl⟩
abbrev main_call5_call0_call0_v31 : Ref sig .tc := ⟨.hbm, 183, rfl⟩
abbrev main_call5_call0_call0_v32 : Ref sig .tc := ⟨.hbm, 184, rfl⟩
abbrev main_call5_call0_call0_v33 : Ref sig .tc := ⟨.hbm, 185, rfl⟩
abbrev main_call5_call0_call0_v34 : Ref sig .tc := ⟨.hbm, 186, rfl⟩
abbrev main_call5_call0_call0_v35 : Ref sig .tc := ⟨.hbm, 187, rfl⟩
abbrev main_call5_call0_call0_v36 : Ref sig .tc := ⟨.hbm, 188, rfl⟩
abbrev main_call5_call0_call0_v37 : Ref sig .tc := ⟨.hbm, 189, rfl⟩
abbrev main_call5_call0_call0_c_8 : Ref sig .tc := ⟨.hbm, 190, rfl⟩
abbrev main_call5_call0_call0_v38 : Ref sig .tc := ⟨.hbm, 191, rfl⟩
abbrev main_call5_call0_call0_v39 : Ref sig .tc := ⟨.hbm, 192, rfl⟩
abbrev main_call5_call0_call0_v40 : Ref sig .tc := ⟨.hbm, 193, rfl⟩
abbrev main_call5_call0_call0_c_9 : Ref sig .tc := ⟨.hbm, 194, rfl⟩
abbrev main_call5_call0_call0_v41 : Ref sig .tc := ⟨.hbm, 195, rfl⟩
abbrev main_call5_call0_call0_v42 : Ref sig .tc := ⟨.hbm, 196, rfl⟩
abbrev main_call5_call0_call0_c_10 : Ref sig .tc := ⟨.hbm, 197, rfl⟩
abbrev main_call5_call0_call0_v43 : Ref sig .tc := ⟨.hbm, 198, rfl⟩
abbrev main_call5_call0_call0_v44 : Ref sig .tc := ⟨.hbm, 199, rfl⟩
abbrev main_call5_call0_call0_v45 : Ref sig .tc := ⟨.hbm, 200, rfl⟩
abbrev main_call5_call0_call0_v46 : Ref sig .tc := ⟨.hbm, 201, rfl⟩
abbrev main_call5_call0_call0_v47 : Ref sig .tc := ⟨.hbm, 202, rfl⟩
abbrev main_call5_call0_call0_c_11 : Ref sig .tc := ⟨.hbm, 203, rfl⟩
abbrev main_call5_call0_call0_v48 : Ref sig .tc := ⟨.hbm, 204, rfl⟩
abbrev main_call5_call0_call0_v49 : Ref sig .tc := ⟨.hbm, 205, rfl⟩
abbrev main_call5_call0_call0_c_12 : Ref sig .tc := ⟨.hbm, 206, rfl⟩
abbrev main_call5_call0_call0_v50 : Ref sig .tc := ⟨.hbm, 207, rfl⟩
abbrev main_call5_call0_call0_v51 : Ref sig .tc := ⟨.hbm, 208, rfl⟩
abbrev main_call5_call0_call0_v52 : Ref sig .tc := ⟨.hbm, 209, rfl⟩
abbrev main_call5_call0_call0_v53 : Ref sig .tc := ⟨.hbm, 210, rfl⟩
abbrev main_call5_call0_call0_v54 : Ref sig .tc := ⟨.hbm, 211, rfl⟩
abbrev main_call5_call0_call0_c_13 : Ref sig .tc := ⟨.hbm, 212, rfl⟩
abbrev main_call5_call0_call0_v55 : Ref sig .tc := ⟨.hbm, 213, rfl⟩
abbrev main_call5_call0_call0_v56 : Ref sig .tc := ⟨.hbm, 214, rfl⟩
abbrev main_call5_call0_call0_c_14 : Ref sig .tc := ⟨.hbm, 215, rfl⟩
abbrev main_call5_call0_call0_v57 : Ref sig .tc := ⟨.hbm, 216, rfl⟩
abbrev main_call5_call0_call0_v58 : Ref sig .tc := ⟨.hbm, 217, rfl⟩
abbrev main_call5_call0_call0_v59 : Ref sig .tc := ⟨.hbm, 218, rfl⟩
abbrev main_call5_call0_call0_v60 : Ref sig .tc := ⟨.hbm, 219, rfl⟩
abbrev main_call5_call0_call0_v61 : Ref sig .tc := ⟨.hbm, 220, rfl⟩
abbrev main_call5_call0_call0_c_15 : Ref sig .tc := ⟨.hbm, 221, rfl⟩
abbrev main_call5_call0_call0_v62 : Ref sig .tc := ⟨.hbm, 222, rfl⟩
abbrev main_call5_call0_call0_v63 : Ref sig .tc := ⟨.hbm, 223, rfl⟩
abbrev main_call5_call0_call0_c_16 : Ref sig .tc := ⟨.hbm, 224, rfl⟩
abbrev main_call5_call0_call0_v64 : Ref sig .tc := ⟨.hbm, 225, rfl⟩
abbrev main_call5_call0_call0_v65 : Ref sig .tc := ⟨.hbm, 226, rfl⟩
abbrev main_call5_call0_call0_v66 : Ref sig .tc := ⟨.hbm, 227, rfl⟩
abbrev main_call5_call0_call0_v67 : Ref sig .tc := ⟨.hbm, 228, rfl⟩
abbrev main_call5_call0_call0_v68 : Ref sig .tc := ⟨.hbm, 229, rfl⟩
abbrev main_call5_call0_call0_v69 : Ref sig .tc := ⟨.hbm, 230, rfl⟩
abbrev main_call5_call0_call0_v70 : Ref sig .tc := ⟨.hbm, 231, rfl⟩
abbrev main_call5_call0_call0_v71 : Ref sig .tc := ⟨.hbm, 232, rfl⟩
abbrev main_call5_call0_call0_c_17 : Ref sig .tc := ⟨.hbm, 233, rfl⟩
abbrev main_call5_call0_call0_v72 : Ref sig .tc := ⟨.hbm, 234, rfl⟩
abbrev main_call5_call0_call0_v73 : Ref sig .tc := ⟨.hbm, 235, rfl⟩
abbrev main_call5_call0_call0_v74 : Ref sig .tc := ⟨.hbm, 236, rfl⟩
abbrev main_call5_call0_call0_c_18 : Ref sig .tc := ⟨.hbm, 237, rfl⟩
abbrev main_call5_call0_call0_v75 : Ref sig .tc := ⟨.hbm, 238, rfl⟩
abbrev main_call5_call0_call0_v76 : Ref sig .tc := ⟨.hbm, 239, rfl⟩
abbrev main_call5_call0_call0_c_19 : Ref sig .tc := ⟨.hbm, 240, rfl⟩
abbrev main_call5_call0_call0_v77 : Ref sig .tc := ⟨.hbm, 241, rfl⟩
abbrev main_call5_call0_call0_v78 : Ref sig .tc := ⟨.hbm, 242, rfl⟩
abbrev main_call5_call0_call0_v79 : Ref sig .tc := ⟨.hbm, 243, rfl⟩
abbrev main_call5_call0_call0_v80 : Ref sig .tc := ⟨.hbm, 244, rfl⟩
abbrev main_call5_call0_call0_v81 : Ref sig .tc := ⟨.hbm, 245, rfl⟩
abbrev main_call5_call0_call0_c_20 : Ref sig .tc := ⟨.hbm, 246, rfl⟩
abbrev main_call5_call0_call0_v82 : Ref sig .tc := ⟨.hbm, 247, rfl⟩
abbrev main_call5_call0_call0_v83 : Ref sig .tc := ⟨.hbm, 248, rfl⟩
abbrev main_call5_call0_call0_c_21 : Ref sig .tc := ⟨.hbm, 249, rfl⟩
abbrev main_call5_call0_call0_v84 : Ref sig .tc := ⟨.hbm, 250, rfl⟩
abbrev main_call5_call0_call0_v85 : Ref sig .tc := ⟨.hbm, 251, rfl⟩
abbrev main_call5_call0_call0_v86 : Ref sig .tc := ⟨.hbm, 252, rfl⟩
abbrev main_call5_call0_call0_v87 : Ref sig .tc := ⟨.hbm, 253, rfl⟩
abbrev main_call5_call0_call0_v88 : Ref sig .tc := ⟨.hbm, 254, rfl⟩
abbrev main_call5_call0_call0_c_22 : Ref sig .tc := ⟨.hbm, 255, rfl⟩
abbrev main_call5_call0_call0_v89 : Ref sig .tc := ⟨.hbm, 256, rfl⟩
abbrev main_call5_call0_call0_v90 : Ref sig .tc := ⟨.hbm, 257, rfl⟩
abbrev main_call5_call0_call0_c_23 : Ref sig .tc := ⟨.hbm, 258, rfl⟩
abbrev main_call5_call0_call0_v91 : Ref sig .tc := ⟨.hbm, 259, rfl⟩
abbrev main_call5_call0_call0_v92 : Ref sig .tc := ⟨.hbm, 260, rfl⟩
abbrev main_call5_call0_call0_v93 : Ref sig .tc := ⟨.hbm, 261, rfl⟩
abbrev main_call5_call0_call0_v94 : Ref sig .tc := ⟨.hbm, 262, rfl⟩
abbrev main_call5_call0_call0_v95 : Ref sig .tc := ⟨.hbm, 263, rfl⟩
abbrev main_call5_call0_call0_c_24 : Ref sig .tc := ⟨.hbm, 264, rfl⟩
abbrev main_call5_call0_call0_v96 : Ref sig .tc := ⟨.hbm, 265, rfl⟩
abbrev main_call5_call0_call0_v97 : Ref sig .tc := ⟨.hbm, 266, rfl⟩
abbrev main_call5_call0_call0_c_25 : Ref sig .tc := ⟨.hbm, 267, rfl⟩
abbrev main_call5_call0_call0_v98 : Ref sig .tc := ⟨.hbm, 268, rfl⟩
abbrev main_call5_call0_call0_v99 : Ref sig .tc := ⟨.hbm, 269, rfl⟩
abbrev main_call5_call0_call0_v100 : Ref sig .tc := ⟨.hbm, 270, rfl⟩
abbrev main_call5_call0_call0_v101 : Ref sig .tc := ⟨.hbm, 271, rfl⟩
abbrev main_call5_call0_call0_v102 : Ref sig .tc := ⟨.hbm, 272, rfl⟩
abbrev main_call5_call0_call0_v103 : Ref sig .tc := ⟨.hbm, 273, rfl⟩
abbrev main_call5_call0_call0_v104 : Ref sig .tc := ⟨.hbm, 274, rfl⟩
abbrev main_call5_call0_call0_v105 : Ref sig .tc := ⟨.hbm, 275, rfl⟩
abbrev main_call5_call0_call0_c_26 : Ref sig .tc := ⟨.hbm, 276, rfl⟩
abbrev main_call5_call0_call0_v106 : Ref sig .tc := ⟨.hbm, 277, rfl⟩
abbrev main_call5_call0_call0_v107 : Ref sig .tc := ⟨.hbm, 278, rfl⟩
abbrev main_call5_call0_call0_v108 : Ref sig .tc := ⟨.hbm, 279, rfl⟩
abbrev main_call5_call0_call0_c_27 : Ref sig .tc := ⟨.hbm, 280, rfl⟩
abbrev main_call5_call0_call0_v109 : Ref sig .tc := ⟨.hbm, 281, rfl⟩
abbrev main_call5_call0_call0_v110 : Ref sig .tc := ⟨.hbm, 282, rfl⟩
abbrev main_call5_call0_call0_c_28 : Ref sig .tc := ⟨.hbm, 283, rfl⟩
abbrev main_call5_call0_call0_v111 : Ref sig .tc := ⟨.hbm, 284, rfl⟩
abbrev main_call5_call0_call0_v112 : Ref sig .tc := ⟨.hbm, 285, rfl⟩
abbrev main_call5_call0_call0_v113 : Ref sig .tc := ⟨.hbm, 286, rfl⟩
abbrev main_call5_call0_call0_v114 : Ref sig .tc := ⟨.hbm, 287, rfl⟩
abbrev main_call5_call0_call0_v115 : Ref sig .tc := ⟨.hbm, 288, rfl⟩
abbrev main_call5_call0_call0_c_29 : Ref sig .tc := ⟨.hbm, 289, rfl⟩
abbrev main_call5_call0_call0_v116 : Ref sig .tc := ⟨.hbm, 290, rfl⟩
abbrev main_call5_call0_call0_v117 : Ref sig .tc := ⟨.hbm, 291, rfl⟩
abbrev main_call5_call0_call0_c_30 : Ref sig .tc := ⟨.hbm, 292, rfl⟩
abbrev main_call5_call0_call0_v118 : Ref sig .tc := ⟨.hbm, 293, rfl⟩
abbrev main_call5_call0_call0_v119 : Ref sig .tc := ⟨.hbm, 294, rfl⟩
abbrev main_call5_call0_call0_v120 : Ref sig .tc := ⟨.hbm, 295, rfl⟩
abbrev main_call5_call0_call0_v121 : Ref sig .tc := ⟨.hbm, 296, rfl⟩
abbrev main_call5_call0_call0_v122 : Ref sig .tc := ⟨.hbm, 297, rfl⟩
abbrev main_call5_call0_call0_c_31 : Ref sig .tc := ⟨.hbm, 298, rfl⟩
abbrev main_call5_call0_call0_v123 : Ref sig .tc := ⟨.hbm, 299, rfl⟩
abbrev main_call5_call0_call0_v124 : Ref sig .tc := ⟨.hbm, 300, rfl⟩
abbrev main_call5_call0_call0_c_32 : Ref sig .tc := ⟨.hbm, 301, rfl⟩
abbrev main_call5_call0_call0_v125 : Ref sig .tc := ⟨.hbm, 302, rfl⟩
abbrev main_call5_call0_call0_v126 : Ref sig .tc := ⟨.hbm, 303, rfl⟩
abbrev main_call5_call0_call0_v127 : Ref sig .tc := ⟨.hbm, 304, rfl⟩
abbrev main_call5_call0_call0_v128 : Ref sig .tc := ⟨.hbm, 305, rfl⟩
abbrev main_call5_call0_call0_v129 : Ref sig .tc := ⟨.hbm, 306, rfl⟩
abbrev main_call5_call0_call0_c_33 : Ref sig .tc := ⟨.hbm, 307, rfl⟩
abbrev main_call5_call0_call0_v130 : Ref sig .tc := ⟨.hbm, 308, rfl⟩
abbrev main_call5_call0_call0_v131 : Ref sig .tc := ⟨.hbm, 309, rfl⟩
abbrev main_call5_call0_call0_c_34 : Ref sig .tc := ⟨.hbm, 310, rfl⟩
abbrev main_call5_call0_call0_v132 : Ref sig .tc := ⟨.hbm, 311, rfl⟩
abbrev main_call5_call0_call0_v133 : Ref sig .tc := ⟨.hbm, 312, rfl⟩
abbrev main_call5_call0_call0_v134 : Ref sig .tc := ⟨.hbm, 313, rfl⟩
abbrev main_call5_call0_call0_v135 : Ref sig .tc := ⟨.hbm, 314, rfl⟩
abbrev main_call5_call0_call0_v136 : Ref sig .tc := ⟨.hbm, 315, rfl⟩
abbrev main_call5_call0_call0_v137 : Ref sig .tc := ⟨.hbm, 316, rfl⟩
abbrev main_call5_call0_call0_v138 : Ref sig .tc := ⟨.hbm, 317, rfl⟩
abbrev main_call5_call0_call0_v139 : Ref sig .tc := ⟨.hbm, 318, rfl⟩
abbrev main_call5_call0_call0_c_35 : Ref sig .tc := ⟨.hbm, 319, rfl⟩
abbrev main_call5_call0_call0_v140 : Ref sig .tc := ⟨.hbm, 320, rfl⟩
abbrev main_call5_call0_call0_v141 : Ref sig .tc := ⟨.hbm, 321, rfl⟩
abbrev main_call5_call0_call0_v142 : Ref sig .tc := ⟨.hbm, 322, rfl⟩
abbrev main_call5_call0_call0_c_36 : Ref sig .tc := ⟨.hbm, 323, rfl⟩
abbrev main_call5_call0_call0_v143 : Ref sig .tc := ⟨.hbm, 324, rfl⟩
abbrev main_call5_call0_call0_v144 : Ref sig .tc := ⟨.hbm, 325, rfl⟩
abbrev main_call5_call0_call0_c_37 : Ref sig .tc := ⟨.hbm, 326, rfl⟩
abbrev main_call5_call0_call0_v145 : Ref sig .tc := ⟨.hbm, 327, rfl⟩
abbrev main_call5_call0_call0_v146 : Ref sig .tc := ⟨.hbm, 328, rfl⟩
abbrev main_call5_call0_call0_v147 : Ref sig .tc := ⟨.hbm, 329, rfl⟩
abbrev main_call5_call0_call0_v148 : Ref sig .tc := ⟨.hbm, 330, rfl⟩
abbrev main_call5_call0_call0_v149 : Ref sig .tc := ⟨.hbm, 331, rfl⟩
abbrev main_call5_call0_call0_c_38 : Ref sig .tc := ⟨.hbm, 332, rfl⟩
abbrev main_call5_call0_call0_v150 : Ref sig .tc := ⟨.hbm, 333, rfl⟩
abbrev main_call5_call0_call0_v151 : Ref sig .tc := ⟨.hbm, 334, rfl⟩
abbrev main_call5_call0_call0_c_39 : Ref sig .tc := ⟨.hbm, 335, rfl⟩
abbrev main_call5_call0_call0_v152 : Ref sig .tc := ⟨.hbm, 336, rfl⟩
abbrev main_call5_call0_call0_v153 : Ref sig .tc := ⟨.hbm, 337, rfl⟩
abbrev main_call5_call0_call0_v154 : Ref sig .tc := ⟨.hbm, 338, rfl⟩
abbrev main_call5_call0_call0_v155 : Ref sig .tc := ⟨.hbm, 339, rfl⟩
abbrev main_call5_call0_call0_v156 : Ref sig .tc := ⟨.hbm, 340, rfl⟩
abbrev main_call5_call0_call0_c_40 : Ref sig .tc := ⟨.hbm, 341, rfl⟩
abbrev main_call5_call0_call0_v157 : Ref sig .tc := ⟨.hbm, 342, rfl⟩
abbrev main_call5_call0_call0_v158 : Ref sig .tc := ⟨.hbm, 343, rfl⟩
abbrev main_call5_call0_call0_c_41 : Ref sig .tc := ⟨.hbm, 344, rfl⟩
abbrev main_call5_call0_call0_v159 : Ref sig .tc := ⟨.hbm, 345, rfl⟩
abbrev main_call5_call0_call0_v160 : Ref sig .tc := ⟨.hbm, 346, rfl⟩
abbrev main_call5_call0_call0_v161 : Ref sig .tc := ⟨.hbm, 347, rfl⟩
abbrev main_call5_call0_call0_v162 : Ref sig .tc := ⟨.hbm, 348, rfl⟩
abbrev main_call5_call0_call0_v163 : Ref sig .tc := ⟨.hbm, 349, rfl⟩
abbrev main_call5_call0_call0_c_42 : Ref sig .tc := ⟨.hbm, 350, rfl⟩
abbrev main_call5_call0_call0_v164 : Ref sig .tc := ⟨.hbm, 351, rfl⟩
abbrev main_call5_call0_call0_v165 : Ref sig .tc := ⟨.hbm, 352, rfl⟩
abbrev main_call5_call0_call0_c_43 : Ref sig .tc := ⟨.hbm, 353, rfl⟩
abbrev main_call5_call0_call0_v166 : Ref sig .tc := ⟨.hbm, 354, rfl⟩
abbrev main_call5_call0_call0_v167 : Ref sig .tc := ⟨.hbm, 355, rfl⟩
abbrev main_call5_call0_call0_v168 : Ref sig .tc := ⟨.hbm, 356, rfl⟩
abbrev main_call5_call0_call0_v169 : Ref sig .tc := ⟨.hbm, 357, rfl⟩
abbrev main_call5_call0_call0_v170 : Ref sig .tc := ⟨.hbm, 358, rfl⟩
abbrev main_call5_call0_v19_0 : Ref sig .tc := ⟨.hbm, 359, rfl⟩
abbrev main_call5_call0_call0_v172 : Ref sig .tc := ⟨.hbm, 360, rfl⟩
abbrev main_call5_call0_call0_v173 : Ref sig .tc := ⟨.hbm, 361, rfl⟩
abbrev main_call5_call0_call0_c_44 : Ref sig .tc := ⟨.hbm, 362, rfl⟩
abbrev main_call5_call0_call0_v174 : Ref sig .tc := ⟨.hbm, 363, rfl⟩
abbrev main_call5_call0_v19_1 : Ref sig .tc := ⟨.hbm, 364, rfl⟩
abbrev main_call5_call0_v20 : Ref sig .tc := ⟨.hbm, 365, rfl⟩
abbrev main_call5_call0_c_2 : Ref sig .tc := ⟨.hbm, 366, rfl⟩
abbrev main_call5_call0_v21 : Ref sig .tc := ⟨.hbm, 367, rfl⟩
abbrev main_call5_call0_v22 : Ref sig .tc := ⟨.hbm, 368, rfl⟩
abbrev main_call5_call0_c_3 : Ref sig .tc := ⟨.hbm, 369, rfl⟩
abbrev main_call5_call0_v23 : Ref sig .tc := ⟨.hbm, 370, rfl⟩
abbrev main_call5_call0_v24 : Ref sig .tc := ⟨.hbm, 371, rfl⟩
abbrev main_call5_call0_v25 : Ref sig .tc := ⟨.hbm, 372, rfl⟩
abbrev main_call5_call0_cst : Ref sig .tc := ⟨.hbm, 373, rfl⟩
abbrev main_call5_call0_v26 : Ref sig .tc := ⟨.hbm, 374, rfl⟩
abbrev main_call5_call0_v27 : Ref sig .tc := ⟨.hbm, 375, rfl⟩
abbrev main_call5_call0_v28 : Ref sig .tc := ⟨.hbm, 376, rfl⟩
abbrev main_call5_call0_v29 : Ref sig .tc := ⟨.hbm, 377, rfl⟩
abbrev main_call5_call0_v30 : Ref sig .tc := ⟨.hbm, 378, rfl⟩
abbrev main_call5_call0_v31 : Ref sig .tc := ⟨.hbm, 379, rfl⟩
abbrev main_call5_call0_v32 : Ref sig .tc := ⟨.hbm, 380, rfl⟩
abbrev main_call5_call0_v33 : Ref sig .tc := ⟨.hbm, 381, rfl⟩
abbrev main_call5_v0 : Ref sig .tc := ⟨.hbm, 382, rfl⟩
abbrev main_v75 : Ref sig .tc := ⟨.hbm, 383, rfl⟩
abbrev main_v76 : Ref sig .tc := ⟨.hbm, 384, rfl⟩
abbrev main_v77 : Ref sig .tc := ⟨.hbm, 385, rfl⟩
abbrev main_v78 : Ref sig .tc := ⟨.hbm, 386, rfl⟩
abbrev main_v79 : Ref sig .tc := ⟨.hbm, 387, rfl⟩
abbrev main_cst_21 : Ref sig .tc := ⟨.hbm, 388, rfl⟩
abbrev main_v80 : Ref sig .tc := ⟨.hbm, 389, rfl⟩
abbrev main_v81 : Ref sig .tc := ⟨.hbm, 390, rfl⟩

abbrev nD : Nat := 1
abbrev τ : Topo := Topo.v7x

variable {F : FTy → Type} [FloatOps F]
-- ==== Proof.PoolTable.lean ====
/-
  The kernel's pooling table: entry `(n, m)` of its 1024 × 64 words is the f32 of one if the position `n` of the 32 × 32 grid
  lies in the 4 × 4 block number `m`, and the f32 of zero otherwise.
-/
module

public import proofs.«01_k».proof.KernelIdeal

@[expose] public section

set_option maxRecDepth 65536

noncomputable section

namespace Cert.Proof.PoolTable

open Cert.KernelIdeal

/-- The number of the 4 × 4 block in which position `n` of the 32 × 32 grid lies. -/
def blockOf (n : Nat) : Nat := n / 32 / 4 * 8 + n % 32 / 4

/-- The table's word at row-major position `i` is as described. -/
def check (i : Nat) : Bool :=
  Nat.beq (lit1t i).toNat (bif Nat.beq (blockOf (i / 64)) (i % 64) then 0x3F800000 else 0)

/-- All words of the `k`-th sixteenth of the table are as described. -/
def part (k : Nat) : Bool :=
  (List.range 32).all fun q => (List.range 128).all fun r => check (4096 * k + (128 * q + r))

end Cert.Proof.PoolTable

end
-- ==== Proof.Spec.lean ====
/-
  What the program computes for one batch element, on extended reals: the centre features `C` (768 channels, 64 centres), the
  point features `X` (768 channels, 1024 points), the logit mask `M` of the points and the uniform number `U` of each centre.
-/
module

public import Idealize.ShloMosaic.PureOps.Ideal.Laws

@[expose] public section

noncomputable section

namespace Cert.Proof.Spec

open Idealize.ShloMosaic

/-- The lower bound of a norm (the f32 nearest 1e-12). -/
def eps12 : EReal := Ideal.ofBits .f32 0x2B8CBCCC#32

/-- What is added to a count before the division (the f32 nearest 1e-6). -/
def eps6 : EReal := Ideal.ofBits .f32 0x358637BD#32

/-- A column divided by its Euclidean norm, the norm at least `eps12`. -/
def hat {n : Nat} (C : Fin 768 → Fin n → EReal) (d : Fin 768) (m : Fin n) : EReal :=
  Ideal.div (C d m) (max (Ideal.sqrt (∑ k, C k m * C k m)) eps12)

/-- The sigmoid of the cosine similarity of centre `m` and point `n`. -/
def sim (C : Fin 768 → Fin 64 → EReal) (X : Fin 768 → Fin 1024 → EReal) (m : Fin 64) (n : Fin 1024) : EReal :=
  Ideal.logistic (∑ d, hat C d m * hat X d n)

/-- `m` is the first position at which `s` is greatest. -/
def First (s : Fin 64 → EReal) (m : Fin 64) : Prop := (∀ k, s k ≤ s m) ∧ ∀ k, k < m → s k < s m

open Classical in
/-- One where centre `m` is the first of those most similar to point `n`, zero elsewhere. -/
def onehot (s : Fin 64 → Fin 1024 → EReal) (m : Fin 64) (n : Fin 1024) : EReal :=
  if First (fun k => s k n) m then 1 else 0

/-- The probability that cluster `m` is dropped: one minus its mean logit mask, kept between zero and one. -/
def keep (o : Fin 64 → Fin 1024 → EReal) (M : Fin 1024 → EReal) (m : Fin 64) : EReal :=
  min 1 (max 0 (1 - max (Ideal.div (∑ n, o m n * M n) (∑ n, o m n + eps6)) 0))

open Classical in
/-- The mask at point `n`: one if its cluster's uniform number is below the cluster's probability. -/
def out (o : Fin 64 → Fin 1024 → EReal) (M : Fin 1024 → EReal) (U : Fin 64 → EReal) (n : Fin 1024) : EReal :=
  ∑ m, o m n * (if U m < keep o M m then 1 else 0)

/-- The first position of the greatest value is one position. -/
theorem First.unique {s : Fin 64 → EReal} {m k : Fin 64} (hm : First s m) (hk : First s k) : m = k := by
  rcases lt_trichotomy m k with h | h | h
  · exact absurd (hk.2 m h) (not_lt.2 (hm.1 k))
  · exact h
  · exact absurd (hm.2 k h) (not_lt.2 (hk.1 m))

/-- There is one. -/
theorem First.exists (s : Fin 64 → EReal) : ∃ m, First s m := by
  classical
  obtain ⟨a, -, ha⟩ := Finset.exists_max_image (Finset.univ : Finset (Fin 64)) s ⟨0, Finset.mem_univ _⟩
  have hne : (Finset.univ.filter fun m => ∀ k, s k ≤ s m).Nonempty :=
    ⟨a, Finset.mem_filter.2 ⟨Finset.mem_univ _, fun k => ha k (Finset.mem_univ _)⟩⟩
  obtain ⟨m, hm, hmin⟩ := Finset.exists_min_image _ (fun m : Fin 64 => m) hne
  have hm' := (Finset.mem_filter.1 hm).2
  refine ⟨m, hm', fun k hk => lt_of_le_of_ne (hm' k) fun e => ?_⟩
  exact absurd (hmin k (Finset.mem_filter.2 ⟨Finset.mem_univ _, fun j => e ▸ hm' j⟩)) (not_le.2 hk)

/-- The greatest value as a fold of `max` from minus infinity. -/
theorem First.fold_max {s : Fin 64 → EReal} {m : Fin 64} (hm : First s m) : Finset.univ.fold max ⊥ s = s m := by
  apply le_antisymm
  · exact Finset.fold_max_le _ |>.2 ⟨bot_le, fun k _ => hm.1 k⟩
  · exact Finset.le_fold_max _ |>.2 (Or.inr ⟨m, Finset.mem_univ _, le_rfl⟩)

end Cert.Proof.Spec

end
-- ==== Proof.Payload.lean ====
/-
  The kernel's body on one batch element, stage by stage, and that what it stores is the function of `Spec.lean`.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof.Payload

open Cert.KernelIdeal Cert.KernelIdeal.Gen
open Idealize.ShloMosaic

section Stages

variable {F : FTy → Type} [FloatOps F]

/-- The block means. -/
def means (P : Vec F S1024x64 .f32) (x : Vec F S1x768x1024 .f32) : FVec F S768x64 .f32 :=
  mulf (matmul dot_S768x1024_S1024x64_S768x64_1_0_0_1_n_n none (shapeCast S768x1024 x shapeCasts_S1x768x1024_S768x1024) P
    (constant S768x64 .f32 0x00000000#32)) (broadcast S768x64 (Scalar.ofBits .f32 0x3D800000#32))

/-- The centres normalised. -/
def hatC (c : FVec F S768x64 .f32) : FVec F S768x64 .f32 :=
  divf c (broadcastTo S768x64 (maximumf (sqrt (shapeCast S1x64
    (multiReduction .add [0] S64 (mulf c c) 0x00000000#32 reduces_S768x64_S64 (.inl rfl) rfl) shapeCasts_S64_S1x64))
    (broadcast S1x64 (Scalar.ofBits .f32 0x2B8CBCCC#32))) broadcasts_S1x64_S768x64)

/-- The points normalised. -/
def hatX (x : FVec F S768x1024 .f32) : FVec F S768x1024 .f32 :=
  divf x (broadcastTo S768x1024 (maximumf (sqrt (shapeCast S1x1024
    (multiReduction .add [0] S1024 (mulf x x) 0x00000000#32 reduces_S768x1024_S1024 (.inl rfl) rfl) shapeCasts_S1024_S1x1024))
    (broadcast S1x1024 (Scalar.ofBits .f32 0x2B8CBCCC#32))) broadcasts_S1x1024_S768x1024)

/-- The similarities. -/
def sims (c : FVec F S768x64 .f32) (x : FVec F S768x1024 .f32) : FVec F S64x1024 .f32 :=
  logistic (matmul dot_S768x64_S768x1024_S64x1024_0_0_1_1_n_n none c x (constant S64x1024 .f32 0x00000000#32))

/-- The index of each point's first most similar centre. -/
def first (s : FVec F S64x1024 .f32) : IVec S1024 32 :=
  multiReductionI .minsi [0] S1024
    (select (cmpf .oeq s (broadcastTo S64x1024 (shapeCast S1x1024
        (multiReduction .maximumf [0] S1024 s 0xFF800000#32 reduces_S64x1024_S1024 (.inl rfl) rfl) shapeCasts_S1024_S1x1024)
        broadcasts_S1x1024_S64x1024))
      (iota .tc S64x1024 32 [0] iota_S64x1024_d0_w32) (broadcast S64x1024 64#32))
    2147483647#32 reduces_S64x1024_S1024 rfl

/-- One at each point's centre, zero elsewhere. -/
def hot (ix : IVec S1024 32) : FVec F S64x1024 .f32 :=
  sitofp .f32 (extui 32 (cmpi .eq (iota .tc S64x1024 32 [0] iota_S64x1024_d0_w32)
    (broadcastTo S64x1024 (shapeCast S1x1024 ix shapeCasts_S1024_S1x1024) broadcasts_S1x1024_S64x1024)) natLt_1_32)

/-- Each cluster's sum of the logit mask, and its count. -/
def sums (o : FVec F S64x1024 .f32) (lm : FVec F S1x1024 .f32) : FVec F S64x2 .f32 :=
  matmul dot_S64x1024_S2x1024_S64x2_1_1_0_0_n_n (some .fp32) o
    (concatenate S2x1024 0 [⟨S1x1024, lm⟩, ⟨S1x1024, broadcast S1x1024 (Scalar.ofBits .f32 0x3F800000#32)⟩]
      concatenates_S1x1024_S1x1024_S2x1024_d0) (constant S64x2 .f32 0x00000000#32)

/-- The probabilities. -/
def keeps (v : FVec F S64x2 .f32) : FVec F S64x1 .f32 :=
  minimumf (broadcast S64x1 (Scalar.ofBits .f32 0x3F800000#32)) (maximumf (broadcast S64x1 (Scalar.ofBits .f32 0x00000000#32))
    (subf (broadcast S64x1 (Scalar.ofBits .f32 0x3F800000#32)) (maximumf
      (divf (extractStridedSlice S64x1 ![0, 0] v slices_S64x2_o0_0_S64x1)
        (addf (extractStridedSlice S64x1 ![0, 1] v slices_S64x2_o0_1_S64x1) (broadcast S64x1 (Scalar.ofBits .f32 0x358637BD#32))))
      (broadcast S64x1 (Scalar.ofBits .f32 0x00000000#32)))))

/-- The mask's row. -/
def row (o : FVec F S64x1024 .f32) (u k : FVec F S64x1 .f32) : FVec F S1x1x1024 .f32 :=
  shapeCast S1x1x1024 (shapeCast S1x1024 (multiReduction .add [0] S1024
    (mulf o (broadcastTo S64x1024 (sitofp .f32 (extui 32 (cmpf .olt u k) natLt_1_32)) broadcasts_S64x1_S64x1024))
    0x00000000#32 reduces_S64x1024_S1024 (.inl rfl) rfl) shapeCasts_S1024_S1x1024) shapeCasts_S1x1024_S1x1x1024

/-- Each point's one-hot column of centres. -/
def hots (P : Vec F S1024x64 .f32) (x : Vec F S1x768x1024 .f32) : FVec F S64x1024 .f32 :=
  hot (first (sims (hatC (means P x)) (hatX (shapeCast S768x1024 x shapeCasts_S1x768x1024_S768x1024))))

/-- What the body stores for one batch element. -/
def body (P : Vec F S1024x64 .f32) (x : Vec F S1x768x1024 .f32) (lm : Vec F S1x1x1024 .f32) (u : Vec F S1x64x1 .f32) :
    FVec F S1x1x1024 .f32 :=
  row (hots P x) (shapeCast S64x1 u shapeCasts_S1x64x1_S64x1)
    (keeps (sums (hots P x) (shapeCast S1x1024 lm shapeCasts_S1x1x1024_S1x1024)))

/-- The first batch element's store is `body`, -/
theorem pay_first (P : Vec F S1024x64 .f32) (x : Vec F S1x768x1024 .f32) (lm : Vec F S1x1x1024 .f32) (u : Vec F S1x64x1 .f32) :
    k0_pay5 (k0_pay2 lm) (k0_pay3 u) (iota .tc S64x1024 32 [0] iota_S64x1024_d0_w32) (k0_pay4 P x) = body P x lm u := rfl

/-- and so is the second's. -/
theorem pay_second (P : Vec F S1024x64 .f32) (x : Vec F S1x768x1024 .f32) (lm : Vec F S1x1x1024 .f32) (u : Vec F S1x64x1 .f32) :
    k0_pay1 (k0_pay8 u) (k0_pay11 (k0_pay6 x) (k0_pay9 P x) k0_pay10)
      (k0_pay12 (k0_pay6 x) (k0_pay7 lm) (k0_pay9 P x) k0_pay10) (Scalar.ofBits .f32 0x3F800000#32) k0_pay13
      = body P x lm u := rfl

end Stages

/-! ## At the extended reals -/

theorem means_apply (P : Vec Ideal S1024x64 .f32) (x : Vec Ideal S1x768x1024 .f32) (d : Fin 768) (m : Fin 64) :
    means P x (ix2 d m) = (∑ n : Fin 1024, x (ix3 0 d n) * P (ix2 n m)) * Ideal.ofBits .f32 0x3D800000#32 := by
  pointwise [means]

theorem hatC_apply (c : FVec Ideal S768x64 .f32) (d : Fin 768) (m : Fin 64) :
    hatC c (ix2 d m) = Spec.hat (fun d m => c (ix2 d m)) d m := by
  pointwise [hatC, Spec.hat, Spec.eps12]

theorem hatX_apply (x : FVec Ideal S768x1024 .f32) (d : Fin 768) (n : Fin 1024) :
    hatX x (ix2 d n) = Spec.hat (fun d n => x (ix2 d n)) d n := by
  pointwise [hatX, Spec.hat, Spec.eps12]

theorem sims_apply (c : FVec Ideal S768x64 .f32) (x : FVec Ideal S768x1024 .f32) (m : Fin 64) (n : Fin 1024) :
    sims c x (ix2 m n) = Ideal.logistic (∑ d : Fin 768, c (ix2 d m) * x (ix2 d n)) := by
  pointwise [sims]

theorem sums_apply (o : FVec Ideal S64x1024 .f32) (lm : FVec Ideal S1x1024 .f32) (m : Fin 64) :
    sums o lm (ix2 m 0) = ∑ n : Fin 1024, o (ix2 m n) * lm (ix2 0 n) ∧ sums o lm (ix2 m 1) = ∑ n : Fin 1024, o (ix2 m n) := by
  constructor
  · pointwise [sums]
  · pointwise [sums]

theorem keeps_apply (v : FVec Ideal S64x2 .f32) (m : Fin 64) :
    keeps v (ix2 m 0) = min 1 (max 0 (1 - max (Ideal.div (v (ix2 m 0)) (v (ix2 m 1) + Spec.eps6)) 0)) := by
  pointwise [keeps, Spec.eps6]

/-- A one-bit truth value as a float. -/
theorem sitofp_bit (b : Bool) :
    FloatOps.sitofp (F := Ideal) FTy.f32 (BitVec.setWidth 32 (BitVec.ofBool b)) = if b = true then (1 : EReal) else 0 := by
  cases b
  · rw [if_neg (by decide), show BitVec.setWidth 32 (BitVec.ofBool false) = 0#32 from rfl]
    simp [FloatOps.sitofp]
  · rw [if_pos rfl, show BitVec.setWidth 32 (BitVec.ofBool true) = 1#32 from rfl]
    simp [FloatOps.sitofp]

open Classical in
theorem row_apply (o : FVec Ideal S64x1024 .f32) (u k : FVec Ideal S64x1 .f32) (n : Fin 1024) :
    row o u k (ix3 0 0 n) = ∑ m : Fin 64, o (ix2 m n) * (if u (ix2 m 0) < k (ix2 m 0) then 1 else 0) := by
  pointwise [row]
  refine Finset.sum_congr rfl fun m _ => ?_
  rw [sitofp_bit]
  simp only [decide_eq_true_eq]

/-- The f32 word of minus infinity. -/
theorem ofBits_bot : Ideal.ofBits .f32 0xFF800000#32 = ⊥ := by
  simp [Ideal.ofBits, Ideal.ieee]

theorem minsi_toInt (x y : BitVec 32) : (IntOp.minsi x y).toInt = min x.toInt y.toInt := by
  unfold IntOp.minsi
  rw [BitVec.slt_eq_decide]
  by_cases h : x.toInt < y.toInt
  · rw [if_pos (decide_eq_true h), min_eq_left h.le]
  · rw [if_neg (by simpa using h), min_eq_right (not_lt.1 h)]

theorem toInt_small (k : Nat) (h : k < 2 ^ 31) : (BitVec.ofNat 32 k).toInt = (k : Int) := by
  rw [BitVec.toInt_eq_toNat_of_lt (by rw [BitVec.toNat_ofNat]; omega), BitVec.toNat_ofNat, Nat.mod_eq_of_lt (by omega)]

/-- The kernel's index is the first position of the greatest similarity. -/
theorem first_apply (s : FVec Ideal S64x1024 .f32) (n : Fin 1024) (m : Fin 64) (hm : Spec.First (fun k => s (ix2 k n)) m) :
    first s (ix1 n) = BitVec.ofNat 32 m.val := by
  pointwise [first]
  rw [ofBits_bot, hm.fold_max]
  have hml : m.val < 64 := m.isLt
  apply BitVec.eq_of_toInt_eq
  rw [← Finset.fold_hom (op' := min) (m := BitVec.toInt) minsi_toInt, toInt_small m.val (by omega)]
  apply le_antisymm
  · refine (Finset.fold_min_le _).2 (Or.inr ⟨m, Finset.mem_univ _, ?_⟩)
    rw [if_pos rfl, toInt_small m.val (by omega)]
  · refine (Finset.le_fold_min _).2 ⟨?_, fun k _ => ?_⟩
    · have h2 : (2147483647#32 : BitVec 32).toInt = 2147483647 := rfl
      rw [h2]
      omega
    · have hkl : k.val < 64 := k.isLt
      by_cases h : s (ix2 k n) = s (ix2 m n)
      · rw [if_pos h, toInt_small k.val (by omega)]
        have : ¬ k < m := fun hk => absurd (hm.2 k hk) (by show ¬ s (ix2 k n) < s (ix2 m n); rw [h]; exact lt_irrefl _)
        exact Int.ofNat_le.2 (not_lt.1 this)
      · rw [if_neg h]
        have h2 : (64#32 : BitVec 32).toInt = 64 := rfl
        rw [h2]
        omega

theorem hot_apply (ix : IVec S1024 32) (m : Fin 64) (n : Fin 1024) :
    hot (F := Ideal) ix (ix2 m n) = if BitVec.ofNat 32 m.val = ix (ix1 n) then 1 else 0 := by
  pointwise [hot]
  unfold IntOp.cmpi
  rw [sitofp_bit]
  simp only [beq_iff_eq]

/-- The kernel's one-hot array. -/
theorem hots_apply (P : Vec Ideal S1024x64 .f32) (x : Vec Ideal S1x768x1024 .f32) (m : Fin 64) (n : Fin 1024) :
    hots P x (ix2 m n) = Spec.onehot (Spec.sim (fun d m => (∑ n : Fin 1024, x (ix3 0 d n) * P (ix2 n m)) * Ideal.ofBits .f32 0x3D800000#32)
      (fun d n => x (ix3 0 d n))) m n := by
  have hs : ∀ k, sims (hatC (means P x)) (hatX (shapeCast S768x1024 x shapeCasts_S1x768x1024_S768x1024)) (ix2 k n)
      = Spec.sim (fun d m => (∑ n : Fin 1024, x (ix3 0 d n) * P (ix2 n m)) * Ideal.ofBits .f32 0x3D800000#32)
        (fun d n => x (ix3 0 d n)) k n := fun k => by
    rw [sims_apply]
    unfold Spec.sim
    congr 1
    refine Finset.sum_congr rfl fun d _ => ?_
    rw [hatC_apply, hatX_apply]
    simp only [means_apply]
    pointwise
  obtain ⟨k, hk⟩ := Spec.First.exists (fun k => Spec.sim (fun d m => (∑ n : Fin 1024, x (ix3 0 d n) * P (ix2 n m))
    * Ideal.ofBits .f32 0x3D800000#32) (fun d n => x (ix3 0 d n)) k n)
  unfold hots
  rw [hot_apply, first_apply _ n k (by simp only [hs]; exact hk)]
  unfold Spec.onehot
  by_cases e : m = k
  · subst e
    rw [if_pos rfl, if_pos hk]
  · rw [if_neg, if_neg]
    · exact fun h => e (h.unique hk)
    · intro h
      have := congrArg BitVec.toNat h
      rw [BitVec.toNat_ofNat, BitVec.toNat_ofNat] at this
      exact e (Fin.ext (by have := m.isLt; have := k.isLt; omega))

/-- What the body stores, at point `n`. -/
theorem body_apply (P : Vec Ideal S1024x64 .f32) (x : Vec Ideal S1x768x1024 .f32) (lm : Vec Ideal S1x1x1024 .f32)
    (u : Vec Ideal S1x64x1 .f32) (n : Fin 1024) :
    body P x lm u (ix3 0 0 n)
      = Spec.out (Spec.onehot (Spec.sim (fun d m => (∑ n : Fin 1024, x (ix3 0 d n) * P (ix2 n m)) * Ideal.ofBits .f32 0x3D800000#32)
          (fun d n => x (ix3 0 d n)))) (fun n => lm (ix3 0 0 n)) (fun m => u (ix3 0 m 0)) n := by
  unfold body Spec.out Spec.keep
  rw [row_apply]
  refine Finset.sum_congr rfl fun m _ => ?_
  rw [keeps_apply, (sums_apply _ _ m).1, (sums_apply _ _ m).2]
  simp only [hots_apply]
  congr 2
  pointwise

end Cert.Proof.Payload

end
-- ==== Proof.Array.lean ====
/-
  What the kernel's result array holds after the launch: at batch `b` and point `n` the function of `Spec.lean` of the arrays as
  the pipeline found them.
-/
module

public import proofs.«01_k».proof.Proof.Payload
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.Proof.Array

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The mask of batch `b` at point `n`, of the features, the pooling matrix, the logit mask and the uniform numbers. -/
def mask (x : FVec Ideal S32x768x1024 .f32) (P : FVec Ideal S1024x64 .f32) (lm : FVec Ideal S32x1x1024 .f32)
    (u : FVec Ideal S32x64x1 .f32) (b : Fin 32) (n : Fin 1024) : EReal :=
  Spec.out (Spec.onehot (Spec.sim
      (fun d k => (∑ i : Fin 1024, x (ix3 b d i) * P (ix2 i k)) * Ideal.ofBits .f32 0x3D800000#32)
      (fun d i => x (ix3 b d i))))
    (fun i => lm (ix3 b 0 i)) (fun k => u (ix3 b k 0)) n

/-- The batch element that is row `a` of the block of point `t`. -/
def batch (t : Fin cfg0.N) (a : Fin 2) : Fin 32 :=
  ⟨2 * t.val + a.val, by have ht : t.val < 16 := N_0 ▸ t.isLt; have := a.isLt; omega⟩

/-- Each window's block index at a point: the point on the batch axis, zero elsewhere. -/
theorem index_eq : ∀ t : Fin grid0.N,
    win0_0.index t = ![t.val, 0, 0] ∧ win0_1.index t = ![0, 0] ∧ win0_2.index t = ![t.val, 0, 0]
      ∧ win0_3.index t = ![t.val, 0, 0] ∧ win0_4.index t = ![t.val, 0, 0] := by
  decide +kernel

theorem block_x (c : Dev nD) (t : Fin cfg0.N) (a : Fin 2) (d : Fin 768) (n : Fin 1024) :
    iblk m c 0 t (ix3 a d n) = V m c main_v0 (ix3 (batch t a) d n) := by
  show V m c main_v0 ((win0_0.rect t).emb (ix3 a d n)) = _
  have hi := (index_eq t).1
  refine congrArg _ (funext fun k => Fin.ext ?_)
  refine (Pipeline.Window.rect_emb_val win0_0 t (ix3 a d n) k).trans ?_
  rw [hi]
  match k with
  | ⟨0, _⟩ => show t.val * 2 + a.val = 2 * t.val + a.val; omega
  | ⟨1, _⟩ => show 0 * 768 + d.val = d.val; omega
  | ⟨2, _⟩ => show 0 * 1024 + n.val = n.val; omega

theorem block_P (c : Dev nD) (t : Fin cfg0.N) (n : Fin 1024) (k : Fin 64) :
    iblk m c 1 t (ix2 n k) = V m c main_cst_0 (ix2 n k) := by
  show V m c main_cst_0 ((win0_1.rect t).emb (ix2 n k)) = _
  have hi := (index_eq t).2.1
  refine congrArg _ (funext fun j => Fin.ext ?_)
  refine (Pipeline.Window.rect_emb_val win0_1 t (ix2 n k) j).trans ?_
  rw [hi]
  match j with
  | ⟨0, _⟩ => show 0 * 1024 + n.val = n.val; omega
  | ⟨1, _⟩ => show 0 * 64 + k.val = k.val; omega

theorem block_lm (c : Dev nD) (t : Fin cfg0.N) (a : Fin 2) (n : Fin 1024) :
    iblk m c 2 t (ix3 a 0 n) = V m c main_v1 (ix3 (batch t a) 0 n) := by
  show V m c main_v1 ((win0_2.rect t).emb (ix3 a 0 n)) = _
  have hi := (index_eq t).2.2.1
  refine congrArg _ (funext fun k => Fin.ext ?_)
  refine (Pipeline.Window.rect_emb_val win0_2 t (ix3 a 0 n) k).trans ?_
  rw [hi]
  match k with
  | ⟨0, _⟩ => show t.val * 2 + a.val = 2 * t.val + a.val; omega
  | ⟨1, _⟩ => rfl
  | ⟨2, _⟩ => show 0 * 1024 + n.val = n.val; omega

theorem block_u (c : Dev nD) (t : Fin cfg0.N) (a : Fin 2) (k : Fin 64) :
    iblk m c 3 t (ix3 a k 0) = V m c main_v2 (ix3 (batch t a) k 0) := by
  show V m c main_v2 ((win0_3.rect t).emb (ix3 a k 0)) = _
  have hi := (index_eq t).2.2.2.1
  refine congrArg _ (funext fun j => Fin.ext ?_)
  refine (Pipeline.Window.rect_emb_val win0_3 t (ix3 a k 0) j).trans ?_
  rw [hi]
  match j with
  | ⟨0, _⟩ => show t.val * 2 + a.val = 2 * t.val + a.val; omega
  | ⟨1, _⟩ => show 0 * 64 + k.val = k.val; omega
  | ⟨2, _⟩ => rfl

/-- A coordinate of a one-row rectangle's element in a two-row array: the row, and its own place in the row. -/
theorem row_place {B C : Nat} (a : Fin 2) (y : Fin B) (z : Fin C) (k : Fin 3) :
    ((ix3 a y z : (⟨3, ![2, B, C]⟩ : Shape).Idx) k : Nat)
      = (![a.val, 0, 0] : Fin 3 → Nat) k + ((ix3 (0 : Fin 1) y z : (⟨3, ![1, B, C]⟩ : Shape).Idx) k : Nat) := by
  match k with
  | ⟨0, _⟩ => show a.val = a.val + 0; omega
  | ⟨1, _⟩ => show y.val = 0 + y.val; omega
  | ⟨2, _⟩ => show z.val = 0 + z.val; omega

/-- Two rows stored one after the other: the second is row one, -/
theorem rows_one (w1 w0 : Vec Ideal S1x1x1024 .f32) (n : Fin 1024) :
    View.canon [⟨r0_5, w1⟩, ⟨r0_2, w0⟩] (ix3 1 0 n : S2x1x1024.Idx) = w1 (ix3 0 0 n) := by
  have e : (ix3 (1 : Fin 2) 0 n : S2x1x1024.Idx) = r0_5.emb (ix3 0 0 n) := funext fun k => Fin.ext (by
    rw [row_place, Rect.emb_apply]; show _ = _ + 1 * _; rw [Nat.one_mul]; rfl)
  rw [e]
  exact View.canon_cons_emb r0_5 w1 _ _

/-- and the first is row zero. -/
theorem rows_zero (w1 w0 : Vec Ideal S1x1x1024 .f32) (n : Fin 1024) :
    View.canon [⟨r0_5, w1⟩, ⟨r0_2, w0⟩] (ix3 0 0 n : S2x1x1024.Idx) = w0 (ix3 0 0 n) := by
  have hnot : (ix3 (0 : Fin 2) 0 n : S2x1x1024.Idx) ∉ r0_5.set := by
    rw [Rect.mem_set_unit]
    intro h
    have h1 : (1 : Nat) ≤ 0 := (h 0).1
    omega
  refine (View.canon_cons_of_not_mem ⟨r0_5, w1⟩ _ hnot).trans ?_
  have e : (ix3 (0 : Fin 2) 0 n : S2x1x1024.Idx) = r0_2.emb (ix3 0 0 n) := funext fun k => Fin.ext (by
    rw [row_place, Rect.emb_apply]; show _ = _ + 1 * _; rw [Nat.one_mul]; rfl)
  rw [e]
  exact View.canon_cons_emb r0_2 w0 [] _

/-- The body's output block from its input blocks: row `a` is the mask of batch element `a` of the blocks. -/
theorem out_apply (x : Vec Ideal S2x768x1024 .f32) (P : Vec Ideal S1024x64 .f32) (lm : Vec Ideal S2x1x1024 .f32)
    (u : Vec Ideal S2x64x1 .f32) (a : Fin 2) (n : Fin 1024) :
    out0_4 x P lm u (ix3 a 0 n)
      = Spec.out (Spec.onehot (Spec.sim
          (fun d k => (∑ i : Fin 1024, x (ix3 a d i) * P (ix2 i k)) * Ideal.ofBits .f32 0x3D800000#32)
          (fun d i => x (ix3 a d i)))) (fun i => lm (ix3 a 0 i)) (fun k => u (ix3 a k 0)) n := by
  have hP : View.ld P r0_0 = P := View.ld_unit_lit _ P (by decide)
  unfold out0_4 k0_pay16 k0_pay15 k0_pay14
  rw [Payload.pay_first, Payload.pay_second, hP]
  have ha : a = 1 ∨ a = 0 := by have := a.isLt; omega
  rcases ha with rfl | rfl
  · rw [rows_one, Payload.body_apply]
    have hx : ∀ d i, View.ld x r0_4 (ix3 0 d i) = x (ix3 1 d i) := fun d i =>
      View.ld_unit_apply_of x _ _ _ (ix3 0 d i) (ix3 1 d i) fun k => row_place 1 d i k
    have hl : ∀ i, View.ld lm r0_5 (ix3 0 0 i) = lm (ix3 1 0 i) := fun i =>
      View.ld_unit_apply_of lm _ _ _ (ix3 0 0 i) (ix3 1 0 i) fun k => row_place 1 0 i k
    have hu : ∀ i, View.ld u r0_6 (ix3 0 i 0) = u (ix3 1 i 0) := fun i =>
      View.ld_unit_apply_of u _ _ _ (ix3 0 i 0) (ix3 1 i 0) fun k => row_place 1 i 0 k
    simp only [hx, hl, hu]
  · rw [rows_zero, Payload.body_apply]
    have hx : ∀ d i, View.ld x r0_1 (ix3 0 d i) = x (ix3 0 d i) := fun d i =>
      View.ld_unit_apply_of x _ _ _ (ix3 0 d i) (ix3 0 d i) fun k => row_place 0 d i k
    have hl : ∀ i, View.ld lm r0_2 (ix3 0 0 i) = lm (ix3 0 0 i) := fun i =>
      View.ld_unit_apply_of lm _ _ _ (ix3 0 0 i) (ix3 0 0 i) fun k => row_place 0 0 i k
    have hu : ∀ i, View.ld u r0_3 (ix3 0 i 0) = u (ix3 0 i 0) := fun i =>
      View.ld_unit_apply_of u _ _ _ (ix3 0 i 0) (ix3 0 i 0) fun k => row_place 0 i 0 k
    simp only [hx, hl, hu]

/-- The whole result array: at `(b, 0, n)` the mask of batch `b` at point `n`. -/
def result (c : Dev nD) : Buf (Elt Ideal) ((c : Thread nD τ).loc main_v3) := fun i : S32x1x1024.Idx =>
  mask (V m c main_v0) (V m c main_cst_0) (V m c main_v1) (V m c main_v2) (i 0) (i 2)

/-- What point `t` writes back is its block of the whole result array. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after0_4]
  funext j
  show out0_4 (iblk m c 0 t) (iblk m c 1 t) (iblk m c 2 t) (iblk m c 3 t) j = result m c ((win0_4.rect t).emb j)
  obtain ⟨a, n, rfl⟩ : ∃ (a : Fin 2) (n : Fin 1024), j = (ix3 a 0 n : S2x1x1024.Idx) :=
    ⟨j 0, j 2, funext fun k => by
      match k with
      | ⟨0, _⟩ => rfl
      | ⟨1, _⟩ => exact Subsingleton.elim (α := Fin 1) _ _
      | ⟨2, _⟩ => rfl⟩
  rw [out_apply]
  have hi := (index_eq t).2.2.2.2
  have e0 : (win0_4.rect t).emb (ix3 a 0 n) 0 = batch t a := Fin.ext (by
    refine (Pipeline.Window.rect_emb_val win0_4 t (ix3 a 0 n) 0).trans ?_
    rw [hi]; show t.val * 2 + a.val = 2 * t.val + a.val; omega)
  have e2 : (win0_4.rect t).emb (ix3 a 0 n) 2 = n := Fin.ext (by
    refine (Pipeline.Window.rect_emb_val win0_4 t (ix3 a 0 n) 2).trans ?_
    rw [hi]; show 0 * 1024 + n.val = n.val; omega)
  show _ = mask _ _ _ _ ((win0_4.rect t).emb (ix3 a 0 n) 0) ((win0_4.rect t).emb (ix3 a 0 n) 2)
  rw [e0, e2]
  unfold mask
  simp only [block_x, block_P, block_lm, block_u]

/-- Every index of the result array is in the block of some point, which is written back. -/
theorem cover (i : S32x1x1024.Idx) :
    ∃ t : Fin cfg0.N, (cfg0.win 4).flush t = true ∧ i ∈ ((cfg0.win 4).blk t).view.set := by
  have h0 : (i 0 : Nat) < 32 := (i 0).isLt
  have h1 : (i 1 : Nat) < 1 := (i 1).isLt
  have h2 : (i 2 : Nat) < 1024 := (i 2).isLt
  have hN : cfg0.N = 16 := N_0
  let t : Fin cfg0.N := ⟨(i 0 : Nat) / 2, by omega⟩
  refine ⟨t, flush0_4 _, ?_⟩
  show i ∈ ((View.whole main_v3).slice (win0_4.rect t)).set
  rw [View.set_slice_whole, Rect.mem_set_unit]
  have hi := (index_eq t).2.2.2.2
  intro a
  show win0_4.index t a * S2x1x1024.size a ≤ (i a : Nat) ∧ (i a : Nat) < win0_4.index t a * S2x1x1024.size a + S2x1x1024.size a
  rw [hi]
  match a with
  | ⟨0, _⟩ => show (i 0 : Nat) / 2 * 2 ≤ (i 0 : Nat) ∧ (i 0 : Nat) < (i 0 : Nat) / 2 * 2 + 2; omega
  | ⟨1, _⟩ => show 0 * 1 ≤ (i 1 : Nat) ∧ (i 1 : Nat) < 0 * 1 + 1; omega
  | ⟨2, _⟩ => show 0 * 1024 ≤ (i 2 : Nat) ∧ (i 2 : Nat) < 0 * 1024 + 1024; omega

/-- So the kernel's result array ends at the mask of every batch and point. -/
theorem final (c : Dev nD) : (dats m 0 c).arrAt 4 cfg0.N = result m c :=
  (dats m 0 c).arrAt_eq_of_cover 4 (result m c) (fun t _ => flushed_eq m c t) cover

end Cert.Proof.Array

end
-- ==== Proof.KernelRun.lean ====
/-
  The kernel's run: at batch `b` and position `(i, j)` the result is the mask of `Array.lean`, read off the arguments and the two
  tables.
-/
module

public import proofs.«01_k».proof.Proof.Array

@[expose] public section

set_option maxRecDepth 16384

noncomputable section

namespace Cert.Proof.KernelRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's arguments on device `c`. -/
abbrev xArg (c : Dev nD) : FVec Ideal S32x768x32x32 .f32 := m ((c : Thread nD τ).loc main_arg0)
abbrev lmArg (c : Dev nD) : FVec Ideal S32x32x32 .f32 := m ((c : Thread nD τ).loc main_arg1)

theorem entry_x (c : Dev nD) (b : Fin 32) (d : Fin 768) (n : Fin 1024) :
    (V m c main_v0 : FVec Ideal S32x768x1024 .f32) (ix3 b d n)
      = xArg m c (ix4 b d ⟨n.val / 32, by omega⟩ ⟨n.val % 32, by omega⟩) := by
  have e : V m c main_v0 = shapeCast S32x768x1024 (xArg m c) shapeCasts_S32x768x32x32_S32x768x1024 := by
    entry_read
    rfl
  rw [e]
  pointwise []

theorem entry_lm (c : Dev nD) (b : Fin 32) (n : Fin 1024) :
    (V m c main_v1 : FVec Ideal S32x1x1024 .f32) (ix3 b 0 n)
      = lmArg m c (ix3 b ⟨n.val / 32, by omega⟩ ⟨n.val % 32, by omega⟩) := by
  have e : V m c main_v1 = shapeCast S32x1x1024 (lmArg m c) shapeCasts_S32x32x32_S32x1x1024 := by
    entry_read
    rfl
  rw [e]
  pointwise []

theorem entry_u (c : Dev nD) (b : Fin 32) (k : Fin 64) :
    (V m c main_v2 : FVec Ideal S32x64x1 .f32) (ix3 b k 0) = Ideal.ofBits .f32 (lit0t (b.val * 64 + k.val)) := by
  have e : V m c main_v2 = shapeCast S32x64x1 (fun i => Ideal.ofBits .f32 (lit0 (S32x64.rowMajor i))) shapeCasts_S32x64_S32x64x1 := by
    entry_read
    rfl
  rw [e]
  pointwise []
  show Ideal.ofBits .f32 (lit0t (S32x64.rowMajor (ix2 b k)).val) = _
  rw [Shape.rowMajor_val_two]
  rfl

theorem entry_P (c : Dev nD) (n : Fin 1024) (k : Fin 64) :
    (V m c main_cst_0 : FVec Ideal S1024x64 .f32) (ix2 n k) = Ideal.ofBits .f32 (lit1t (n.val * 64 + k.val)) := by
  have e : V m c main_cst_0 = fun i : S1024x64.Idx => Ideal.ofBits .f32 (lit1 (S1024x64.rowMajor i)) := by
    entry_read
    rfl
  rw [e]
  show Ideal.ofBits .f32 (lit1t (S1024x64.rowMajor (ix2 n k)).val) = _
  rw [Shape.rowMajor_val_two]
  rfl

/-- The kernel's result from its arguments, at batch `b` and the position numbered `n`. -/
def value (x : FVec Ideal S32x768x32x32 .f32) (lm : FVec Ideal S32x32x32 .f32) (b : Fin 32) (n : Fin 1024) : EReal :=
  Spec.out (Spec.onehot (Spec.sim
      (fun d k => (∑ i : Fin 1024, x (ix4 b d ⟨i.val / 32, by omega⟩ ⟨i.val % 32, by omega⟩)
        * Ideal.ofBits .f32 (lit1t (i.val * 64 + k.val))) * Ideal.ofBits .f32 0x3D800000#32)
      (fun d i => x (ix4 b d ⟨i.val / 32, by omega⟩ ⟨i.val % 32, by omega⟩))))
    (fun i => lm (ix3 b ⟨i.val / 32, by omega⟩ ⟨i.val % 32, by omega⟩))
    (fun k => Ideal.ofBits .f32 (lit0t (b.val * 64 + k.val))) n

/-- The mask depends on its arrays through the entries it reads. -/
theorem mask_of (x : FVec Ideal S32x768x1024 .f32) (P : FVec Ideal S1024x64 .f32) (lm : FVec Ideal S32x1x1024 .f32)
    (u : FVec Ideal S32x64x1 .f32) (x' : FVec Ideal S32x768x32x32 .f32) (lm' : FVec Ideal S32x32x32 .f32) (b : Fin 32)
    (n : Fin 1024) (hx : ∀ d n, x (ix3 b d n) = x' (ix4 b d ⟨n.val / 32, by omega⟩ ⟨n.val % 32, by omega⟩))
    (hP : ∀ n k, P (ix2 n k) = Ideal.ofBits .f32 (lit1t (n.val * 64 + k.val)))
    (hl : ∀ n, lm (ix3 b 0 n) = lm' (ix3 b ⟨n.val / 32, by omega⟩ ⟨n.val % 32, by omega⟩))
    (hu : ∀ k, u (ix3 b k 0) = Ideal.ofBits .f32 (lit0t (b.val * 64 + k.val))) :
    Array.mask x P lm u b n = value x' lm' b n := by
  unfold Array.mask value
  simp only [hx, hP, hl, hu]

theorem mask_entry (c : Dev nD) (b : Fin 32) (n : Fin 1024) :
    Array.mask (V m c main_v0) (V m c main_cst_0) (V m c main_v1) (V m c main_v2) b n = value (xArg m c) (lmArg m c) b n :=
  mask_of _ _ _ _ _ _ _ _ (entry_x m c b) (entry_P m c) (entry_lm m c b) (entry_u m c b)

/-- The line after the launch reshapes its array. -/
theorem tail (W : Valuation τ sig (Elt Ideal)) :
    StableHlo.after [hostOps1].flatten W (Proc.devRef .tc main_v4)
      = (shapeCast S32x32x32 (W (Proc.devRef .tc main_v3) : FVec Ideal S32x1x1024 .f32) shapeCasts_S32x1x1024_S32x32x32 : FVec Ideal S32x32x32 .f32) := by
  rw [List.flatten_cons, List.flatten_nil, List.append_nil]
  unfold hostOps1
  rw [StableHlo.after_cons, StableHlo.after_nil, StableHlo.reshape_result]
  rfl

/-- The reshaped array read at an index. -/
theorem cast_apply (y : FVec Ideal S32x1x1024 .f32) (b i j : Fin 32) :
    shapeCast S32x32x32 y shapeCasts_S32x1x1024_S32x32x32 (ix3 b i j) = y (ix3 b 0 ⟨i.val * 32 + j.val, by omega⟩) := by
  pointwise []

/-- What the program's result buffer holds after the lines that follow the launch. -/
theorem result_at (c : Dev nD) (b i j : Fin 32) :
    (Pipeline.afterTail₀ cfgs (dats m) 0 (V0 m) [hostOps1] c main_v4 : FVec Ideal S32x32x32 .f32) (ix3 b i j)
      = value (xArg m c) (lmArg m c) b ⟨i.val * 32 + j.val, by omega⟩ := by
  unfold Pipeline.afterTail₀
  refine (congrFun (tail _) (ix3 b i j)).trans ((cast_apply _ b i j).trans ?_)
  have h := Pipeline.withArrays_arr spec0 launch0.win.arr_inj c (V0 m c) (fun w => (dats m 0 c).arrAt w cfg0.N) 4
  refine (congrFun (h.trans (Array.final m c)) (ix3 b 0 ⟨i.val * 32 + j.val, by omega⟩)).trans ?_
  exact mask_entry m c b _

/-- The kernel's run: its result, and its arguments unchanged. -/
theorem run : θ_run defs (onTc (τ := τ) (main (F := Ideal))) ⟨m, fun _ => 0, ρ⟩ fun r => ∀ c : Dev nD,
      (∀ b i j : Fin 32, (r.2.mem ((c : Thread nD τ).loc main_v4) : FVec Ideal S32x32x32 .f32) (ix3 b i j)
          = value (xArg m c) (lmArg m c) b ⟨i.val * 32 + j.val, by omega⟩)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨fun b i j => (congrFun ((h c).2 main_v4 (Pipeline.mem_restRefs_of main_v4 (by decide) (by decide))) (ix3 b i j)).trans
        (result_at m c b i j),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelRun

end
-- ==== Proof.Line.lean ====
/-
  A straight line of host operations, read as a system of equations.

  The reference program writes each of its tensor values once, in the order of their buffer numbers, and each operation
  reads only values written before it. So at the end of the run every operation's equation "this value is this function of
  those values" still holds, of the FINAL contents of the buffers. This module states that once: an `Asg` is an
  operation with its result buffer, the buffers it reads and its equation; `ordered` is the check on buffer numbers;
  `run` says that a program which is such a line ends with every equation true and the buffers below the first result
  unchanged.
-/
module

public import Idealize.ShloMosaic.Lib.StableHlo.Run

@[expose] public section

noncomputable section

namespace Cert.Line

open Idealize.ShloMosaic Idealize.ShloMosaic.StableHlo Idealize.SL.Sem

variable {nD : Nat} {τ : Topo} {sig : RefSig} {Val : EltTy → Type} {Λ : Labels}

/-- The contents of a typed reference's buffer, at the value's type. -/
def get {T : BufTy} (V : Valuation τ sig Val) (x : TRef sig T) : T.Contents Val := x.ofBuf (V (Proc.devRef .tc x.ref))

/-- A host operation with the buffer it writes, the buffers its result depends on, and the equation that holds of any
    contents it leaves as they are. -/
structure Asg (τ : Topo) (sig : RefSig) (Val : EltTy → Type) where
  op : HloOp τ sig Val
  y : Ref sig .tc
  reads : List (Ref sig .tc)
  writes : op.writes = {Proc.devRef .tc y}
  fresh : op.fresh = ∅
  sub : op.bufs ⊆ tcRefs τ sig
  loc : ∀ V V' : Valuation τ sig Val, (∀ r ∈ reads, V (Proc.devRef .tc r) = V' (Proc.devRef .tc r)) →
    op.result V (Proc.devRef .tc y) = op.result V' (Proc.devRef .tc y)
  eqn : Valuation τ sig Val → Prop
  eqn_of : ∀ V, op.result V (Proc.devRef .tc y) = V (Proc.devRef .tc y) → eqn V

variable {T Ta Tb Tc Te Ty : BufTy}

/-- `y := v`. -/
def asg0 (y : TRef sig Ty) (v : Ty.Contents Val) : Asg τ sig Val where
  op := TRef.nullary y v
  y := y.ref
  reads := []
  writes := rfl
  fresh := rfl
  sub := nullary_bufs_sub ..
  loc V V' _ := by rw [nullary_result', nullary_result']
  eqn V := get V y = v
  eqn_of V h := by
    rw [nullary_result'] at h
    unfold get
    rw [← h, TRef.ofBuf_toBuf]

/-- `y := f a`. -/
def asg1 (a : TRef sig Ta) (y : TRef sig Ty) (f : Ta.Contents Val → Ty.Contents Val) : Asg τ sig Val where
  op := TRef.unary a y f
  y := y.ref
  reads := [a.ref]
  writes := rfl
  fresh := rfl
  sub := unary_bufs_sub ..
  loc V V' h := by rw [unary_result', unary_result', h _ (by simp)]
  eqn V := get V y = f (get V a)
  eqn_of V h := by
    rw [unary_result'] at h
    unfold get
    rw [← h, TRef.ofBuf_toBuf]

/-- `y := f a b`. -/
def asg2 (a : TRef sig Ta) (b : TRef sig Tb) (y : TRef sig Ty) (f : Ta.Contents Val → Tb.Contents Val → Ty.Contents Val) :
    Asg τ sig Val where
  op := TRef.binary a b y f
  y := y.ref
  reads := [a.ref, b.ref]
  writes := rfl
  fresh := rfl
  sub := binary_bufs_sub ..
  loc V V' h := by rw [binary_result', binary_result', h _ (by simp), h b.ref (by simp)]
  eqn V := get V y = f (get V a) (get V b)
  eqn_of V h := by
    rw [binary_result'] at h
    unfold get
    rw [← h, TRef.ofBuf_toBuf]

/-- `y := f c a b`. -/
def asg3 (c : TRef sig Tc) (a : TRef sig Ta) (b : TRef sig Tb) (y : TRef sig Ty)
    (f : Tc.Contents Val → Ta.Contents Val → Tb.Contents Val → Ty.Contents Val) : Asg τ sig Val where
  op := TRef.ternary c a b y f
  y := y.ref
  reads := [c.ref, a.ref, b.ref]
  writes := rfl
  fresh := rfl
  sub := ternary_bufs_sub ..
  loc V V' h := by rw [ternary_result', ternary_result', h c.ref (by simp), h a.ref (by simp), h b.ref (by simp)]
  eqn V := get V y = f (get V c) (get V a) (get V b)
  eqn_of V h := by
    rw [ternary_result'] at h
    unfold get
    rw [← h, TRef.ofBuf_toBuf]

/-- `y := f a b c e`. -/
def asg4 (a : TRef sig Ta) (b : TRef sig Tb) (c : TRef sig Tc) (e : TRef sig Te) (y : TRef sig Ty)
    (f : Ta.Contents Val → Tb.Contents Val → Tc.Contents Val → Te.Contents Val → Ty.Contents Val) : Asg τ sig Val where
  op := TRef.quaternary a b c e y f
  y := y.ref
  reads := [a.ref, b.ref, c.ref, e.ref]
  writes := rfl
  fresh := rfl
  sub := quaternary_bufs_sub ..
  loc V V' h := by
    rw [quaternary_result', quaternary_result', h a.ref (by simp), h b.ref (by simp), h c.ref (by simp), h e.ref (by simp)]
  eqn V := get V y = f (get V a) (get V b) (get V c) (get V e)
  eqn_of V h := by
    rw [quaternary_result'] at h
    unfold get
    rw [← h, TRef.ofBuf_toBuf]

/-- `y := f xs`, for three operands (a concatenation of three pieces), at the buffers' own types. -/
def asgN (xs : Fin 3 → Ref sig .tc) (y : Ref sig .tc) (f : ((k : Fin 3) → (xs k).ty.Contents Val) → y.ty.Contents Val)
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩) : Asg τ sig Val where
  op := nary xs y f hxs hy
  y := y
  reads := [xs 0, xs 1, xs 2]
  writes := rfl
  fresh := rfl
  sub := nary_bufs_sub ..
  loc V V' h := by
    have e : ∀ k, V (Proc.devRef .tc (xs k)) = V' (Proc.devRef .tc (xs k)) := fun k => by
      fin_cases k
      · exact h _ (by simp)
      · exact h _ (by simp)
      · exact h _ (by simp)
    rw [nary_result', nary_result']
    simp only [e]
  eqn V := V (Proc.devRef .tc y) = f (fun k => V (Proc.devRef .tc (xs k)))
  eqn_of V h := by
    rw [nary_result'] at h
    exact h.symm

/-- `y := f c a b`, at the buffers' own types. -/
def asgT (c a b y : Ref sig .tc) (f : c.ty.Contents Val → a.ty.Contents Val → b.ty.Contents Val → y.ty.Contents Val)
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩) :
    Asg τ sig Val where
  op := ternary c a b y f hc ha hb hy
  y := y
  reads := [c, a, b]
  writes := rfl
  fresh := rfl
  sub := ternary_bufs_sub ..
  loc V V' h := by rw [ternary_result', ternary_result', h c (by simp), h a (by simp), h b (by simp)]
  eqn V := V (Proc.devRef .tc y) = f (V (Proc.devRef .tc c)) (V (Proc.devRef .tc a)) (V (Proc.devRef .tc b))
  eqn_of V h := by
    rw [ternary_result'] at h
    exact h.symm

/-- A reshape written at two buffers' own types, read at the values' types. -/
theorem reshape_get {e : EltTy} {s t : Shape} {Tx Ty : BufTy} (hx : Tx = ⟨s, e⟩) (hy : Ty = ⟨t, e⟩) (W : Tx.Contents Val)
    (he : Tx.elt = Ty.elt) (hn' : Tx.shape.ShapeCasts Ty.shape) (hn : s.ShapeCasts t) :
    cast (congrArg (fun U : BufTy => U.Contents Val) hy) (fun i => he ▸ shapeCast Ty.shape W hn' i)
      = shapeCast t (cast (congrArg (fun U : BufTy => U.Contents Val) hx) W : s.Idx → Val e) hn := by
  subst hx; subst hy; rfl

/-- `y := a` in another shape of as many elements. -/
def asgR {e : EltTy} {s t : Shape} (a : TRef sig ⟨s, e⟩) (y : TRef sig ⟨t, e⟩) (hn : s.ShapeCasts t) : Asg τ sig Val where
  op := TRef.reshape a y rfl hn
  y := y.ref
  reads := [a.ref]
  writes := rfl
  fresh := rfl
  sub := reshape_bufs_sub ..
  loc V V' h := by rw [reshape_result', reshape_result', h _ (by simp)]
  eqn V := get V y = shapeCast t (get V a : s.Idx → Val e) hn
  eqn_of V h := by
    rw [reshape_result'] at h
    unfold get
    rw [← h]
    exact reshape_get a.ty_eq y.ty_eq _ _ _ hn

/-- The number of a buffer in its table. -/
def num (r : Ref sig .tc) : Nat := r.idx.val

/-- The line writes the buffers `n`, `n + 1`, … in order, each operation reading smaller ones only. -/
def ordered : Nat → List (Asg τ sig Val) → Bool
  | _, [] => true
  | n, a :: l => Nat.beq (num a.y) n && a.reads.all (fun r => Nat.blt (num r) n) && ordered (n + 1) l

theorem ordered_cons {n : Nat} {a : Asg τ sig Val} {l : List (Asg τ sig Val)} (h : ordered n (a :: l) = true) :
    num a.y = n ∧ (∀ r ∈ a.reads, num r < n) ∧ ordered (n + 1) l = true := by
  simp only [ordered, Bool.and_eq_true, List.all_eq_true, Nat.blt_eq] at h
  exact ⟨Nat.eq_of_beq_eq_true h.1.1, h.1.2, h.2⟩

/-- A check of a line in two pieces. -/
theorem ordered_append {n : Nat} {l₁ l₂ : List (Asg τ sig Val)} (h₁ : ordered n l₁ = true)
    (h₂ : ordered (n + l₁.length) l₂ = true) : ordered n (l₁ ++ l₂) = true := by
  induction l₁ generalizing n with
  | nil => exact h₂
  | cons a l ih =>
    simp only [List.cons_append, ordered, Bool.and_eq_true] at h₁ ⊢
    refine ⟨h₁.1, ih h₁.2 ?_⟩
    rw [List.length_cons] at h₂
    rw [show n + 1 + l.length = n + (l.length + 1) by omega]
    exact h₂

/-- The buffers below the first result keep their contents. -/
theorem after_lt {n : Nat} {l : List (Asg τ sig Val)} (h : ordered n l = true) (V : Valuation τ sig Val) (r : Ref sig .tc)
    (hr : num r < n) : after (l.map Asg.op) V (Proc.devRef .tc r) = V (Proc.devRef .tc r) := by
  induction l generalizing n V with
  | nil => rfl
  | cons a l ih =>
    obtain ⟨hy, -, hl⟩ := ordered_cons h
    rw [List.map_cons, after_cons, ih hl _ (by omega),
      result_of_writes_ne _ _ a.y r a.writes fun e => by rw [e] at hr; omega]

/-- Every equation of the line holds of the final contents. -/
theorem after_eqns {n : Nat} {l : List (Asg τ sig Val)} (h : ordered n l = true) (V : Valuation τ sig Val) :
    l.Forall fun a => a.eqn (after (l.map Asg.op) V) := by
  induction l generalizing n V with
  | nil => trivial
  | cons a l ih =>
    obtain ⟨hy, hr, hl⟩ := ordered_cons h
    refine (List.forall_cons _ _ _).2 ⟨a.eqn_of _ ?_, ih hl _⟩
    rw [List.map_cons, after_cons, after_lt hl _ a.y (by omega)]
    refine a.loc _ _ fun r hm => ?_
    have hn := hr r hm
    rw [after_lt hl _ r (by omega), result_of_writes_ne _ _ a.y r a.writes fun e => by rw [e] at hn; omega]

/-- A program that is such a line, on a signature that scopes nothing, runs to contents of which every equation holds and
    which agree with the launch's on the buffers below the first result. -/
theorem run (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (l : List (Asg τ sig Val)) (n : Nat) (hmain : ∀ d, main d = seq (l.map Asg.op)) (hl : ordered n l = true)
    (m : (ℓ : Loc nD τ sig) → Buf Val ℓ) (ρ : Dev nD → PrngReg) :
    θ_run defs (onTc (τ := τ) main) ⟨m, fun _ => 0, ρ⟩ fun r => ∀ d : Dev nD, ∃ V : Valuation τ sig Val,
      (∀ b : Ref sig .tc, r.2.mem ((d.tc : Thread nD τ).loc b) = V (Proc.devRef .tc b))
      ∧ (l.Forall fun a => a.eqn V)
      ∧ ∀ b : Ref sig .tc, num b < n → V (Proc.devRef .tc b) = m ((d.tc : Thread nD τ).loc b) :=
  (θ_run defs _ _).mono (fun r h d => ⟨after (l.map Asg.op) (launchContents m d), h d, after_eqns hl _,
      fun b hb => after_lt hl _ b hb⟩)
    (run_seq hR hC defs main (fun _ => l.map Asg.op) hmain
      (fun _ => List.forall_iff_forall_mem.2 fun op hop => by
        obtain ⟨a, -, rfl⟩ := List.mem_map.1 hop; exact a.sub)
      m ρ
      (fun _ op hop => by obtain ⟨a, -, rfl⟩ := List.mem_map.1 hop; exact a.fresh))

end Cert.Line

end
-- ==== Proof.RefLine.lean ====
/-
  The reference program as a straight line of equations (`Line.lean`): the operations of every function that it calls, and of
  its main function, in order; that the program is this line; and its run.
-/
module

public import proofs.«01_k».proof.Proof.Line
public import proofs.«01_k».proof.Proof.Gen.ReferenceIdeal
public import Idealize.ShloMosaic.Lib.Quiescent

@[expose] public section

set_option maxRecDepth 16384

noncomputable section

namespace Cert.Proof.RefLine

open Cert.ReferenceIdeal Cert.ReferenceIdeal.Gen Cert.Line
open Idealize.ShloMosaic Idealize.ShloMosaic.TcCoe Idealize.ShloMosaic.StableHlo Idealize.SL.Sem

variable {F : FTy → Type} [FloatOps F]

/-- One operation of the reference, with its equation. -/
abbrev A (F : FTy → Type) : Type := Asg τ sig (Elt F)

/-- A buffer of the reference holding a value of type `e` and shape `s`. -/
abbrev R (s : Shape) (e : EltTy) : Type := TRef sig ⟨s, e⟩

/-! ## The functions that the main function calls -/

/-- The operations of one call of @norm. -/
def norm (arg0 : R S32x64x768 .f32) (φ : fn_norm.Bufs) : List (A F) :=
    [asg2 arg0 arg0 φ.v0 mulf,
     asg0 φ.cst (constant S_ .f32 0x00000000#32),
     asg2 φ.v0 φ.cst φ.v1 (fun x v => Host.reduceAdd x v reducesTo_S32x64x768_S32x64_d2 h_S_),
     asg1 φ.v1 φ.v2 (broadcastInDim S32x64x1 ![0, 1] bcast_S32x64_S32x64x1_0_1),
     asg1 φ.v2 φ.v3 Host.sqrt]

/-- The operations of one call of @norm_0. -/
def norm0 (arg0 : R S32x1024x768 .f32) (φ : fn_norm_0.Bufs) : List (A F) :=
    [asg2 arg0 arg0 φ.v0 mulf,
     asg0 φ.cst (constant S_ .f32 0x00000000#32),
     asg2 φ.v0 φ.cst φ.v1 (fun x v => Host.reduceAdd x v reducesTo_S32x1024x768_S32x1024_d2 h_S_),
     asg1 φ.v1 φ.v2 (broadcastInDim S32x1024x1 ![0, 1] bcast_S32x1024_S32x1024x1_0_1),
     asg1 φ.v2 φ.v3 Host.sqrt]

/-- The operations of one call of @argmax. -/
def argmax (arg0 : R S32x64x1024 .f32) (φ : fn_argmax.Bufs) : List (A F) :=
    [asg0 φ.v0 (iotaInDim S32x64x1024 32 1),
     asg0 φ.cst (constant S_ .f32 0xFF800000#32),
     asg0 φ.c (constantI S_ 32 0#32),
     asg4 arg0 φ.v0 φ.cst φ.c φ.v1_0 (fun x y u v j => (Host.argReduce reducer_argmax_f32_i32 x y u v reducesTo_S32x64x1024_S32x1024_d1 h_S_ j).1),
     asg4 arg0 φ.v0 φ.cst φ.c φ.v1_1 (fun x y u v j => (Host.argReduce reducer_argmax_f32_i32 x y u v reducesTo_S32x64x1024_S32x1024_d1 h_S_ j).2)]

/-- The operations of one call of @relu. -/
def relu (arg0 : R S32x64 .f32) (φ : fn_relu.Bufs) : List (A F) :=
    [asg0 φ.cst (constant S_ .f32 0x00000000#32),
     asg1 φ.cst φ.v0 (broadcastInDim S32x64 ![] bcast_S_S32x64),
     asg2 arg0 φ.v0 φ.v1 maximumf]

/-- The operations of one call of @clip. -/
def clip (arg0 : R S32x64 .f32) (arg1 arg2 : R S_ .f32) (φ : fn_clip.Bufs) : List (A F) :=
    [asg1 arg1 φ.v0 id,
     asg1 φ.v0 φ.v1 (broadcastInDim S32x64 ![] bcast_S_S32x64),
     asg2 φ.v1 arg0 φ.v2 maximumf,
     asg1 arg2 φ.v3 id,
     asg1 φ.v3 φ.v4 (broadcastInDim S32x64 ![] bcast_S_S32x64),
     asg2 φ.v4 φ.v2 φ.v5 minimumf]

/-- One round of threefry after its addition `x0`: `x := x0 ^ (x1 rotated left by r)`, where `r'` is `32 - r`. -/
def rot (x0 x1 : R S32x64 .i32) (c : R S_ .i32) (b s : R S32x64 .i32) (c' : R S_ .i32) (b' t o x : R S32x64 .i32)
    (r r' : BitVec 32) : List (A F) :=
    [asg0 c (constantI S_ 32 r),
     asg1 c b (broadcastInDim S32x64 ![] bcast_S_S32x64),
     asg2 x1 b s Host.shli,
     asg0 c' (constantI S_ 32 r'),
     asg1 c' b' (broadcastInDim S32x64 ![] bcast_S_S32x64),
     asg2 x1 b' t Host.shrui,
     asg2 s t o ori,
     asg2 x0 o x xori]

/-! @threefry2x32 in six pieces: the key schedule and the first additions, then four rounds and a key injection, five times. -/

/-- @threefry2x32, piece 0. -/
def tf0 (arg0 arg1 : R S_ .i32) (arg2 arg3 : R S32x64 .i32) (φ : fn_threefry2x32.Bufs) : List (A F) :=
    [asg2 arg0 arg1 φ.v0 xori,
     asg0 φ.c (constantI S_ 32 466688986#32),
     asg2 φ.v0 φ.c φ.v1 xori,
     asg1 arg0 φ.v2 (broadcastInDim S32x64 ![] bcast_S_S32x64),
     asg2 arg2 φ.v2 φ.v3 addi,
     asg1 arg1 φ.v4 (broadcastInDim S32x64 ![] bcast_S_S32x64),
     asg2 arg3 φ.v4 φ.v5 addi,
     asg2 φ.v3 φ.v5 φ.v6 addi]

/-- @threefry2x32, piece 1. -/
def tf1 (arg0 arg1 : R S_ .i32) (arg2 arg3 : R S32x64 .i32) (φ : fn_threefry2x32.Bufs) : List (A F) :=
    rot φ.v6 φ.v5 φ.c_0 φ.v7 φ.v8 φ.c_1 φ.v9 φ.v10 φ.v11 φ.v12 13#32 19#32 ++ (
    [asg2 φ.v6 φ.v12 φ.v13 addi] ++ (
    rot φ.v13 φ.v12 φ.c_2 φ.v14 φ.v15 φ.c_3 φ.v16 φ.v17 φ.v18 φ.v19 15#32 17#32 ++ (
    [asg2 φ.v13 φ.v19 φ.v20 addi] ++ (
    rot φ.v20 φ.v19 φ.c_4 φ.v21 φ.v22 φ.c_5 φ.v23 φ.v24 φ.v25 φ.v26 26#32 6#32 ++ (
    [asg2 φ.v20 φ.v26 φ.v27 addi] ++ (
    rot φ.v27 φ.v26 φ.c_6 φ.v28 φ.v29 φ.c_7 φ.v30 φ.v31 φ.v32 φ.v33 6#32 26#32 ++ (
    [asg1 arg1 φ.v34 (broadcastInDim S32x64 ![] bcast_S_S32x64),
     asg2 φ.v27 φ.v34 φ.v35 addi,
     asg1 φ.v1 φ.v36 (broadcastInDim S32x64 ![] bcast_S_S32x64),
     asg2 φ.v33 φ.v36 φ.v37 addi,
     asg0 φ.c_8 (constantI S_ 32 1#32),
     asg1 φ.c_8 φ.v38 (broadcastInDim S32x64 ![] bcast_S_S32x64),
     asg2 φ.v37 φ.v38 φ.v39 addi,
     asg2 φ.v35 φ.v39 φ.v40 addi])))))))

/-- @threefry2x32, piece 2. -/
def tf2 (arg0 arg1 : R S_ .i32) (arg2 arg3 : R S32x64 .i32) (φ : fn_threefry2x32.Bufs) : List (A F) :=
    rot φ.v40 φ.v39 φ.c_9 φ.v41 φ.v42 φ.c_10 φ.v43 φ.v44 φ.v45 φ.v46 17#32 15#32 ++ (
    [asg2 φ.v40 φ.v46 φ.v47 addi] ++ (
    rot φ.v47 φ.v46 φ.c_11 φ.v48 φ.v49 φ.c_12 φ.v50 φ.v51 φ.v52 φ.v53 29#32 3#32 ++ (
    [asg2 φ.v47 φ.v53 φ.v54 addi] ++ (
    rot φ.v54 φ.v53 φ.c_13 φ.v55 φ.v56 φ.c_14 φ.v57 φ.v58 φ.v59 φ.v60 16#32 16#32 ++ (
    [asg2 φ.v54 φ.v60 φ.v61 addi] ++ (
    rot φ.v61 φ.v60 φ.c_15 φ.v62 φ.v63 φ.c_16 φ.v64 φ.v65 φ.v66 φ.v67 24#32 8#32 ++ (
    [asg1 φ.v1 φ.v68 (broadcastInDim S32x64 ![] bcast_S_S32x64),
     asg2 φ.v61 φ.v68 φ.v69 addi,
     asg1 arg0 φ.v70 (broadcastInDim S32x64 ![] bcast_S_S32x64),
     asg2 φ.v67 φ.v70 φ.v71 addi,
     asg0 φ.c_17 (constantI S_ 32 2#32),
     asg1 φ.c_17 φ.v72 (broadcastInDim S32x64 ![] bcast_S_S32x64),
     asg2 φ.v71 φ.v72 φ.v73 addi,
     asg2 φ.v69 φ.v73 φ.v74 addi])))))))

/-- @threefry2x32, piece 3. -/
def tf3 (arg0 arg1 : R S_ .i32) (arg2 arg3 : R S32x64 .i32) (φ : fn_threefry2x32.Bufs) : List (A F) :=
    rot φ.v74 φ.v73 φ.c_18 φ.v75 φ.v76 φ.c_19 φ.v77 φ.v78 φ.v79 φ.v80 13#32 19#32 ++ (
    [asg2 φ.v74 φ.v80 φ.v81 addi] ++ (
    rot φ.v81 φ.v80 φ.c_20 φ.v82 φ.v83 φ.c_21 φ.v84 φ.v85 φ.v86 φ.v87 15#32 17#32 ++ (
    [asg2 φ.v81 φ.v87 φ.v88 addi] ++ (
    rot φ.v88 φ.v87 φ.c_22 φ.v89 φ.v90 φ.c_23 φ.v91 φ.v92 φ.v93 φ.v94 26#32 6#32 ++ (
    [asg2 φ.v88 φ.v94 φ.v95 addi] ++ (
    rot φ.v95 φ.v94 φ.c_24 φ.v96 φ.v97 φ.c_25 φ.v98 φ.v99 φ.v100 φ.v101 6#32 26#32 ++ (
    [asg1 arg0 φ.v102 (broadcastInDim S32x64 ![] bcast_S_S32x64),
     asg2 φ.v95 φ.v102 φ.v103 addi,
     asg1 arg1 φ.v104 (broadcastInDim S32x64 ![] bcast_S_S32x64),
     asg2 φ.v101 φ.v104 φ.v105 addi,
     asg0 φ.c_26 (constantI S_ 32 3#32),
     asg1 φ.c_26 φ.v106 (broadcastInDim S32x64 ![] bcast_S_S32x64),
     asg2 φ.v105 φ.v106 φ.v107 addi,
     asg2 φ.v103 φ.v107 φ.v108 addi])))))))

/-- @threefry2x32, piece 4. -/
def tf4 (arg0 arg1 : R S_ .i32) (arg2 arg3 : R S32x64 .i32) (φ : fn_threefry2x32.Bufs) : List (A F) :=
    rot φ.v108 φ.v107 φ.c_27 φ.v109 φ.v110 φ.c_28 φ.v111 φ.v112 φ.v113 φ.v114 17#32 15#32 ++ (
    [asg2 φ.v108 φ.v114 φ.v115 addi] ++ (
    rot φ.v115 φ.v114 φ.c_29 φ.v116 φ.v117 φ.c_30 φ.v118 φ.v119 φ.v120 φ.v121 29#32 3#32 ++ (
    [asg2 φ.v115 φ.v121 φ.v122 addi] ++ (
    rot φ.v122 φ.v121 φ.c_31 φ.v123 φ.v124 φ.c_32 φ.v125 φ.v126 φ.v127 φ.v128 16#32 16#32 ++ (
    [asg2 φ.v122 φ.v128 φ.v129 addi] ++ (
    rot φ.v129 φ.v128 φ.c_33 φ.v130 φ.v131 φ.c_34 φ.v132 φ.v133 φ.v134 φ.v135 24#32 8#32 ++ (
    [asg1 arg1 φ.v136 (broadcastInDim S32x64 ![] bcast_S_S32x64),
     asg2 φ.v129 φ.v136 φ.v137 addi,
     asg1 φ.v1 φ.v138 (broadcastInDim S32x64 ![] bcast_S_S32x64),
     asg2 φ.v135 φ.v138 φ.v139 addi,
     asg0 φ.c_35 (constantI S_ 32 4#32),
     asg1 φ.c_35 φ.v140 (broadcastInDim S32x64 ![] bcast_S_S32x64),
     asg2 φ.v139 φ.v140 φ.v141 addi,
     asg2 φ.v137 φ.v141 φ.v142 addi])))))))

/-- @threefry2x32, piece 5. -/
def tf5 (arg0 arg1 : R S_ .i32) (arg2 arg3 : R S32x64 .i32) (φ : fn_threefry2x32.Bufs) : List (A F) :=
    rot φ.v142 φ.v141 φ.c_36 φ.v143 φ.v144 φ.c_37 φ.v145 φ.v146 φ.v147 φ.v148 13#32 19#32 ++ (
    [asg2 φ.v142 φ.v148 φ.v149 addi] ++ (
    rot φ.v149 φ.v148 φ.c_38 φ.v150 φ.v151 φ.c_39 φ.v152 φ.v153 φ.v154 φ.v155 15#32 17#32 ++ (
    [asg2 φ.v149 φ.v155 φ.v156 addi] ++ (
    rot φ.v156 φ.v155 φ.c_40 φ.v157 φ.v158 φ.c_41 φ.v159 φ.v160 φ.v161 φ.v162 26#32 6#32 ++ (
    [asg2 φ.v156 φ.v162 φ.v163 addi] ++ (
    rot φ.v163 φ.v162 φ.c_42 φ.v164 φ.v165 φ.c_43 φ.v166 φ.v167 φ.v168 φ.v169 6#32 26#32 ++ (
    [asg1 φ.v1 φ.v170 (broadcastInDim S32x64 ![] bcast_S_S32x64),
     asg2 φ.v163 φ.v170 φ.v171 addi,
     asg1 arg0 φ.v172 (broadcastInDim S32x64 ![] bcast_S_S32x64),
     asg2 φ.v169 φ.v172 φ.v173 addi,
     asg0 φ.c_44 (constantI S_ 32 5#32),
     asg1 φ.c_44 φ.v174 (broadcastInDim S32x64 ![] bcast_S_S32x64),
     asg2 φ.v173 φ.v174 φ.v175 addi])))))))

/-- The operations of one call of @threefry2x32. -/
def threefry (arg0 arg1 : R S_ .i32) (arg2 arg3 : R S32x64 .i32) (φ : fn_threefry2x32.Bufs) : List (A F) :=
  tf0 arg0 arg1 arg2 arg3 φ ++ (tf1 arg0 arg1 arg2 arg3 φ ++ (tf2 arg0 arg1 arg2 arg3 φ ++ (tf3 arg0 arg1 arg2 arg3 φ ++ (tf4 arg0 arg1 arg2 arg3 φ ++ (tf5 arg0 arg1 arg2 arg3 φ)))))

/-- The operations of one call of @uniform. -/
def uniform (arg0 : R S2 .i32) (arg1 arg2 : R S_ .f32) (φ : fn_uniform.Bufs) : List (A F) :=
    [asg1 arg1 φ.v0 id,
     asg1 arg2 φ.v1 id,
     asg1 φ.v0 φ.v2 (broadcastInDim S1x1 ![] bcast_S_S1x1),
     asg1 φ.v1 φ.v3 (broadcastInDim S1x1 ![] bcast_S_S1x1),
     asg1 arg0 φ.v4 (extractStridedSlice S1 ![0] · slices_S2_S1_0),
     asgR φ.v4 φ.v5 shapeCasts_S1_S_,
     asg1 arg0 φ.v6 (extractStridedSlice S1 ![1] · slices_S2_S1_1),
     asgR φ.v6 φ.v7 shapeCasts_S1_S_,
     asg0 φ.v8 (iotaInDim S32x64 64 0),
     asg0 φ.v9 (iotaInDim S32x64 64 1),
     asg0 φ.c (constantI S_ 64 64#64),
     asg1 φ.c φ.v10 (broadcastInDim S32x64 ![] bcast_S_S32x64),
     asg2 φ.v10 φ.v8 φ.v11 muli,
     asg0 φ.c_0 (constantI S_ 64 1#64),
     asg1 φ.c_0 φ.v12 (broadcastInDim S32x64 ![] bcast_S_S32x64),
     asg2 φ.v12 φ.v9 φ.v13 muli,
     asg2 φ.v11 φ.v13 φ.v14 addi,
     asg0 φ.c_1 (constantI S_ 64 32#64),
     asg1 φ.c_1 φ.v15 (broadcastInDim S32x64 ![] bcast_S_S32x64),
     asg2 φ.v14 φ.v15 φ.v16 Host.shrui,
     asg1 φ.v14 φ.v17 (trunci 32 · natLt_32_64),
     asg1 φ.v16 φ.v18 (trunci 32 · natLt_32_64)] ++ (
    threefry φ.v5 φ.v7 φ.v18 φ.v17 φ.call0 ++ (
    [asg2 φ.call0.v171 φ.call0.v175 φ.v20 xori,
     asg0 φ.c_2 (constantI S_ 32 9#32),
     asg1 φ.c_2 φ.v21 (broadcastInDim S32x64 ![] bcast_S_S32x64),
     asg2 φ.v20 φ.v21 φ.v22 Host.shrui,
     asg0 φ.c_3 (constantI S_ 32 1065353216#32),
     asg1 φ.c_3 φ.v23 (broadcastInDim S32x64 ![] bcast_S_S32x64),
     asg2 φ.v22 φ.v23 φ.v24 ori,
     asg1 φ.v24 φ.v25 (bitcastToFloat .f32),
     asg0 φ.cst (constant S_ .f32 0x3F800000#32),
     asg1 φ.cst φ.v26 (broadcastInDim S32x64 ![] bcast_S_S32x64),
     asg2 φ.v25 φ.v26 φ.v27 subf,
     asg2 φ.v3 φ.v2 φ.v28 subf,
     asg1 φ.v28 φ.v29 (broadcastInDim S32x64 ![0, 1] bcast_S1x1_S32x64_0_1),
     asg2 φ.v27 φ.v29 φ.v30 mulf,
     asg1 φ.v2 φ.v31 (broadcastInDim S32x64 ![0, 1] bcast_S1x1_S32x64_0_1),
     asg2 φ.v30 φ.v31 φ.v32 addf,
     asg1 φ.v2 φ.v33 (broadcastInDim S32x64 ![0, 1] bcast_S1x1_S32x64_0_1),
     asg2 φ.v33 φ.v32 φ.v34 maximumf]))

/-- The operations of one call of @bernoulli. -/
def bernoulli (arg0 : R S2 .i32) (arg1 : R S32x64 .f32) (φ : fn_bernoulli.Bufs) : List (A F) :=
    [asg0 φ.cst (constant S_ .f32 0x00000000#32),
     asg0 φ.cst_0 (constant S_ .f32 0x3F800000#32)] ++ (
    uniform arg0 φ.cst φ.cst_0 φ.call0 ++ (
    [asg2 φ.call0.v34 arg1 φ.v1 (cmpf .olt)]))

/-! ## The main function: its values, typed -/

abbrev r_arg0 : R S32x768x32x32 .f32 := .of main_arg0
abbrev r_v0 : R S32x768x8x4x8x4 .f32 := .of main_v0
abbrev r_cst : R S_ .f32 := .of main_cst
abbrev r_v1 : R S32x768x8x8 .f32 := .of main_v1
abbrev r_cst_0 : R S_ .f32 := .of main_cst_0
abbrev r_v2 : R S32x768x8x8 .f32 := .of main_v2
abbrev r_v3 : R S32x768x8x8 .f32 := .of main_v3
abbrev r_v4 : R S32x768x64 .f32 := .of main_v4
abbrev r_v5 : R S32x64x768 .f32 := .of main_v5
abbrev r_v6 : R S32x768x1024 .f32 := .of main_v6
abbrev r_v7 : R S32x1024x768 .f32 := .of main_v7
abbrev r_cst_1 : R S_ .f32 := .of main_cst_1
abbrev r_v9 : R S32x64x1 .f32 := .of main_v9
abbrev r_v8 : R S32x64x1 .f32 := .of main_v8
abbrev r_v10 : R S32x64x1 .f32 := .of main_v10
abbrev r_v11 : R S32x64x768 .f32 := .of main_v11
abbrev r_v12 : R S32x64x768 .f32 := .of main_v12
abbrev r_cst_2 : R S_ .f32 := .of main_cst_2
abbrev r_v14 : R S32x1024x1 .f32 := .of main_v14
abbrev r_v13 : R S32x1024x1 .f32 := .of main_v13
abbrev r_v15 : R S32x1024x1 .f32 := .of main_v15
abbrev r_v16 : R S32x1024x768 .f32 := .of main_v16
abbrev r_v17 : R S32x1024x768 .f32 := .of main_v17
abbrev r_v18 : R S32x768x1024 .f32 := .of main_v18
abbrev r_v19 : R S32x64x1024 .f32 := .of main_v19
abbrev r_v20 : R S32x64x1024 .f32 := .of main_v20
abbrev r_v21 : R S32x64x1024 .f32 := .of main_v21
abbrev r_cst_3 : R S_ .f32 := .of main_cst_3
abbrev r_v22 : R S32x64x1024 .f32 := .of main_v22
abbrev r_v23 : R S32x64x1024 .f32 := .of main_v23
abbrev r_cst_4 : R S_ .f32 := .of main_cst_4
abbrev r_v24 : R S32x64x1024 .f32 := .of main_v24
abbrev r_v25 : R S32x64x1024 .f32 := .of main_v25
abbrev r_v27 : R S32 .i32 := .of main_v27
abbrev r_v28 : R S32x1 .i32 := .of main_v28
abbrev r_v29 : R S1024 .i32 := .of main_v29
abbrev r_v30 : R S1x1024 .i32 := .of main_v30
abbrev r_cst_5 : R S_ .f32 := .of main_cst_5
abbrev r_v31 : R S32x64x1024 .f32 := .of main_v31
abbrev r_c : R S_ .i32 := .of main_c
abbrev r_v32 : R S32x1 .i32 := .of main_v32
abbrev r_v33 : R S32x1 .i1 := .of main_v33
abbrev r_c_6 : R S_ .i32 := .of main_c_6
abbrev r_v34 : R S32x1 .i32 := .of main_v34
abbrev r_v35 : R S32x1 .i32 := .of main_v35
abbrev r_v36 : R S32x1 .i32 := .of main_v36
abbrev r_c_7 : R S_ .i32 := .of main_c_7
abbrev r_v37 : R S32x1024 .i32 := .of main_v37
abbrev r_v26 : R S32x1024 .i32 := .of main_v26
abbrev r_v38 : R S32x1024 .i1 := .of main_v38
abbrev r_c_8 : R S_ .i32 := .of main_c_8
abbrev r_v39 : R S32x1024 .i32 := .of main_v39
abbrev r_v40 : R S32x1024 .i32 := .of main_v40
abbrev r_v41 : R S32x1024 .i32 := .of main_v41
abbrev r_c_9 : R S_ .i32 := .of main_c_9
abbrev r_v42 : R S1x1024 .i32 := .of main_v42
abbrev r_v43 : R S1x1024 .i1 := .of main_v43
abbrev r_c_10 : R S_ .i32 := .of main_c_10
abbrev r_v44 : R S1x1024 .i32 := .of main_v44
abbrev r_v45 : R S1x1024 .i32 := .of main_v45
abbrev r_v46 : R S1x1024 .i32 := .of main_v46
abbrev r_v47 : R S32x1024 .i32 := .of main_v47
abbrev r_v48 : R S32x1024 .i32 := .of main_v48
abbrev r_v49 : R S32x1024x1 .i32 := .of main_v49
abbrev r_v50 : R S32x1024x1 .i32 := .of main_v50
abbrev r_v51 : R S32x1024x1 .i32 := .of main_v51
abbrev r_v52 : R S32x1024x3 .i32 := .of main_v52
abbrev r_cst_11 : R S_ .f32 := .of main_cst_11
abbrev r_v53 : R S32x1024 .f32 := .of main_v53
abbrev r_v54 : R S32x64x1024 .f32 := .of main_v54
abbrev r_arg1 : R S32x32x32 .f32 := .of main_arg1
abbrev r_v55 : R S32x1024 .f32 := .of main_v55
abbrev r_v56 : R S32x1x1024 .f32 := .of main_v56
abbrev r_v57 : R S32x64x1024 .f32 := .of main_v57
abbrev r_v58 : R S32x64x1024 .f32 := .of main_v58
abbrev r_cst_12 : R S_ .f32 := .of main_cst_12
abbrev r_v59 : R S32x64 .f32 := .of main_v59
abbrev r_cst_13 : R S_ .f32 := .of main_cst_13
abbrev r_v60 : R S32x64 .f32 := .of main_v60
abbrev r_cst_14 : R S_ .f32 := .of main_cst_14
abbrev r_v61 : R S32x64 .f32 := .of main_v61
abbrev r_v62 : R S32x64 .f32 := .of main_v62
abbrev r_v63 : R S32x64 .f32 := .of main_v63
abbrev r_cst_15 : R S_ .f32 := .of main_cst_15
abbrev r_v65 : R S32x64 .f32 := .of main_v65
abbrev r_v64 : R S32x64 .f32 := .of main_v64
abbrev r_v66 : R S32x64 .f32 := .of main_v66
abbrev r_cst_16 : R S_ .f32 := .of main_cst_16
abbrev r_cst_17 : R S_ .f32 := .of main_cst_17
abbrev r_c_18 : R S_ .i32 := .of main_c_18
abbrev r_c_19 : R S_ .i32 := .of main_c_19
abbrev r_v68 : R S_ .i32 := .of main_v68
abbrev r_v69 : R S_ .i32 := .of main_v69
abbrev r_v70 : R S1 .i32 := .of main_v70
abbrev r_c_20 : R S_ .i32 := .of main_c_20
abbrev r_v71 : R S_ .i32 := .of main_v71
abbrev r_v72 : R S_ .i32 := .of main_v72
abbrev r_v73 : R S1 .i32 := .of main_v73
abbrev r_v74 : R S2 .i32 := .of main_v74
abbrev r_v67 : R S32x64 .f32 := .of main_v67
abbrev r_v75 : R S32x64 .i1 := .of main_v75
abbrev r_v76 : R S32x64 .f32 := .of main_v76
abbrev r_v77 : R S32x64x1 .f32 := .of main_v77
abbrev r_v78 : R S32x64x1024 .f32 := .of main_v78
abbrev r_v79 : R S32x64x1024 .f32 := .of main_v79
abbrev r_cst_21 : R S_ .f32 := .of main_cst_21
abbrev r_v80 : R S32x1024 .f32 := .of main_v80
abbrev r_v81 : R S32x32x32 .f32 := .of main_v81

/-- The main function, piece 0. -/
def m0 : List (A F) :=
    [asgR r_arg0 r_v0 shapeCasts_S32x768x32x32_S32x768x8x4x8x4,
     asg0 r_cst (constant S_ .f32 0x00000000#32),
     asg2 r_v0 r_cst r_v1 (fun x v => Host.reduceAdd x v reducesTo_S32x768x8x4x8x4_S32x768x8x8_d3_5 h_S_),
     asg0 r_cst_0 (constant S_ .f32 0x41800000#32),
     asg1 r_cst_0 r_v2 (broadcastInDim S32x768x8x8 ![] bcast_S_S32x768x8x8),
     asg2 r_v1 r_v2 r_v3 Host.divf,
     asgR r_v3 r_v4 shapeCasts_S32x768x8x8_S32x768x64,
     asg1 r_v4 r_v5 (transpose S32x64x768 [0, 2, 1] · transposes_S32x768x64_S32x64x768_0_2_1),
     asgR r_arg0 r_v6 shapeCasts_S32x768x32x32_S32x768x1024,
     asg1 r_v6 r_v7 (transpose S32x1024x768 [0, 2, 1] · transposes_S32x768x1024_S32x1024x768_0_2_1)]

/-- The main function, piece 1. -/
def m1 : List (A F) :=
    [asg0 r_cst_1 (constant S_ .f32 0x2B8CBCCC#32),
     asg1 r_cst_1 r_v9 (broadcastInDim S32x64x1 ![] bcast_S_S32x64x1),
     asg2 r_v8 r_v9 r_v10 maximumf,
     asg1 r_v10 r_v11 (broadcastInDim S32x64x768 ![0, 1, 2] bcast_S32x64x1_S32x64x768_0_1_2),
     asg2 r_v5 r_v11 r_v12 Host.divf]

/-- The main function, piece 2. -/
def m2 : List (A F) :=
    [asg0 r_cst_2 (constant S_ .f32 0x2B8CBCCC#32),
     asg1 r_cst_2 r_v14 (broadcastInDim S32x1024x1 ![] bcast_S_S32x1024x1),
     asg2 r_v13 r_v14 r_v15 maximumf,
     asg1 r_v15 r_v16 (broadcastInDim S32x1024x768 ![0, 1, 2] bcast_S32x1024x1_S32x1024x768_0_1_2),
     asg2 r_v7 r_v16 r_v17 Host.divf,
     asg1 r_v17 r_v18 (transpose S32x768x1024 [0, 2, 1] · transposes_S32x1024x768_S32x768x1024_0_2_1),
     asg2 r_v12 r_v18 r_v19 (fun l r => Host.dotGeneral dot_S32x64x768_S32x768x1024_S32x64x1024_2_1_1_2_0_0 none l r),
     asg1 r_v19 r_v20 Host.negf,
     asg1 r_v20 r_v21 Host.exp,
     asg0 r_cst_3 (constant S_ .f32 0x3F800000#32),
     asg1 r_cst_3 r_v22 (broadcastInDim S32x64x1024 ![] bcast_S_S32x64x1024),
     asg2 r_v22 r_v21 r_v23 addf,
     asg0 r_cst_4 (constant S_ .f32 0x3F800000#32),
     asg1 r_cst_4 r_v24 (broadcastInDim S32x64x1024 ![] bcast_S_S32x64x1024),
     asg2 r_v24 r_v23 r_v25 Host.divf]

/-- The main function, piece 3. -/
def m3 : List (A F) :=
    [asg0 r_v27 (iotaInDim S32 32 0),
     asg1 r_v27 r_v28 (broadcastInDim S32x1 ![0] bcast_S32_S32x1_0),
     asg0 r_v29 (iotaInDim S1024 32 0),
     asg1 r_v29 r_v30 (broadcastInDim S1x1024 ![1] bcast_S1024_S1x1024_1),
     asg0 r_cst_5 (constant S_ .f32 0x00000000#32),
     asg1 r_cst_5 r_v31 (broadcastInDim S32x64x1024 ![] bcast_S_S32x64x1024),
     asg0 r_c (constantI S_ 32 0#32),
     asg1 r_c r_v32 (broadcastInDim S32x1 ![] bcast_S_S32x1),
     asg2 r_v28 r_v32 r_v33 (cmpi .slt),
     asg0 r_c_6 (constantI S_ 32 32#32),
     asg1 r_c_6 r_v34 (broadcastInDim S32x1 ![] bcast_S_S32x1),
     asg2 r_v28 r_v34 r_v35 addi,
     asg3 r_v33 r_v35 r_v28 r_v36 select,
     asg0 r_c_7 (constantI S_ 32 0#32),
     asg1 r_c_7 r_v37 (broadcastInDim S32x1024 ![] bcast_S_S32x1024),
     asg2 r_v26 r_v37 r_v38 (cmpi .slt),
     asg0 r_c_8 (constantI S_ 32 64#32),
     asg1 r_c_8 r_v39 (broadcastInDim S32x1024 ![] bcast_S_S32x1024),
     asg2 r_v26 r_v39 r_v40 addi,
     asg3 r_v38 r_v40 r_v26 r_v41 select,
     asg0 r_c_9 (constantI S_ 32 0#32),
     asg1 r_c_9 r_v42 (broadcastInDim S1x1024 ![] bcast_S_S1x1024),
     asg2 r_v30 r_v42 r_v43 (cmpi .slt),
     asg0 r_c_10 (constantI S_ 32 1024#32),
     asg1 r_c_10 r_v44 (broadcastInDim S1x1024 ![] bcast_S_S1x1024),
     asg2 r_v30 r_v44 r_v45 addi,
     asg3 r_v43 r_v45 r_v30 r_v46 select]

/-- The main function, part A. -/
def partA : List (A F) :=
    m0 ++ (
    norm r_v5 main_call0 ++ (
    m1 ++ (
    norm0 r_v7 main_call1 ++ (
    m2 ++ (
    argmax r_v25 main_call2 ++ (
    m3))))))

/-- The main function, piece 4. -/
def m4 : List (A F) :=
    [asg1 r_v36 r_v47 (broadcastInDim S32x1024 ![0, 1] bcast_S32x1_S32x1024_0_1),
     asg1 r_v46 r_v48 (broadcastInDim S32x1024 ![0, 1] bcast_S1x1024_S32x1024_0_1),
     asg1 r_v47 r_v49 (broadcastInDim S32x1024x1 ![0, 1] bcast_S32x1024_S32x1024x1_0_1),
     asg1 r_v41 r_v50 (broadcastInDim S32x1024x1 ![0, 1] bcast_S32x1024_S32x1024x1_0_1),
     asg1 r_v48 r_v51 (broadcastInDim S32x1024x1 ![0, 1] bcast_S32x1024_S32x1024x1_0_1),
     asgN ![main_v49, main_v50, main_v51] main_v52 (fun u => (concatenate S32x1024x3 2 [⟨S32x1024x1, (u 0 : (⟨S32x1024x1, .i32⟩ : BufTy).Contents (Elt F))⟩, ⟨S32x1024x1, (u 1 : (⟨S32x1024x1, .i32⟩ : BufTy).Contents (Elt F))⟩, ⟨S32x1024x1, (u 2 : (⟨S32x1024x1, .i32⟩ : BufTy).Contents (Elt F))⟩] concatenates_S32x1024x1_S32x1024x1_S32x1024x1_S32x1024x3_d2)),
     asg0 r_cst_11 (constant S_ .f32 0x3F800000#32),
     asg1 r_cst_11 r_v53 (broadcastInDim S32x1024 ![] bcast_S_S32x1024),
     asgT main_v31 main_v52 main_v53 main_v54 ((fun x i u => Host.scatter scatter_S32x64x1024_S32x1024x3_S32x1024_n_012_012_2 (fun _ b => b) x i u) : (⟨S32x64x1024, .f32⟩ : BufTy).Contents (Elt F) → (⟨S32x1024x3, .i32⟩ : BufTy).Contents (Elt F) → (⟨S32x1024, .f32⟩ : BufTy).Contents (Elt F) → (⟨S32x64x1024, .f32⟩ : BufTy).Contents (Elt F)),
     asgR r_arg1 r_v55 shapeCasts_S32x32x32_S32x1024,
     asg1 r_v55 r_v56 (broadcastInDim S32x1x1024 ![0, 2] bcast_S32x1024_S32x1x1024_0_2),
     asg1 r_v56 r_v57 (broadcastInDim S32x64x1024 ![0, 1, 2] bcast_S32x1x1024_S32x64x1024_0_1_2),
     asg2 r_v54 r_v57 r_v58 mulf,
     asg0 r_cst_12 (constant S_ .f32 0x00000000#32),
     asg2 r_v58 r_cst_12 r_v59 (fun x v => Host.reduceAdd x v reducesTo_S32x64x1024_S32x64_d2 h_S_),
     asg0 r_cst_13 (constant S_ .f32 0x00000000#32),
     asg2 r_v54 r_cst_13 r_v60 (fun x v => Host.reduceAdd x v reducesTo_S32x64x1024_S32x64_d2 h_S_),
     asg0 r_cst_14 (constant S_ .f32 0x358637BD#32),
     asg1 r_cst_14 r_v61 (broadcastInDim S32x64 ![] bcast_S_S32x64),
     asg2 r_v60 r_v61 r_v62 addf,
     asg2 r_v59 r_v62 r_v63 Host.divf]

/-- The main function, piece 5. -/
def m5 : List (A F) :=
    [asg0 r_cst_15 (constant S_ .f32 0x3F800000#32),
     asg1 r_cst_15 r_v65 (broadcastInDim S32x64 ![] bcast_S_S32x64),
     asg2 r_v65 r_v64 r_v66 subf,
     asg0 r_cst_16 (constant S_ .f32 0x00000000#32),
     asg0 r_cst_17 (constant S_ .f32 0x3F800000#32)]

/-- The main function, piece 6. -/
def m6 : List (A F) :=
    [asg0 r_c_18 (constantI S_ 32 42#32),
     asg0 r_c_19 (constantI S_ 32 32#32),
     asg2 r_c_18 r_c_19 r_v68 Host.shrui,
     asg1 r_v68 r_v69 id,
     asg1 r_v69 r_v70 (broadcastInDim S1 ![] bcast_S_S1),
     asg0 r_c_20 (constantI S_ 32 4294967295#32),
     asg2 r_c_18 r_c_20 r_v71 andi,
     asg1 r_v71 r_v72 id,
     asg1 r_v72 r_v73 (broadcastInDim S1 ![] bcast_S_S1),
     asg2 r_v70 r_v73 r_v74 (fun a b => concatenate S2 0 [⟨S1, a⟩, ⟨S1, b⟩] concatenates_S1_S1_S2_d0)]

/-- The main function, piece 7. -/
def m7 : List (A F) :=
    [asg1 r_v75 r_v76 (uitofp .f32),
     asg1 r_v76 r_v77 (broadcastInDim S32x64x1 ![0, 1] bcast_S32x64_S32x64x1_0_1),
     asg1 r_v77 r_v78 (broadcastInDim S32x64x1024 ![0, 1, 2] bcast_S32x64x1_S32x64x1024_0_1_2),
     asg2 r_v54 r_v78 r_v79 mulf,
     asg0 r_cst_21 (constant S_ .f32 0x00000000#32),
     asg2 r_v79 r_cst_21 r_v80 (fun x v => Host.reduceAdd x v reducesTo_S32x64x1024_S32x1024_d1 h_S_),
     asgR r_v80 r_v81 shapeCasts_S32x1024_S32x32x32]

/-- The main function, part B. -/
def partB : List (A F) :=
    m4 ++ (
    relu r_v63 main_call3 ++ (
    m5 ++ (
    clip r_v66 r_cst_16 r_cst_17 main_call4 ++ (
    m6 ++ (
    bernoulli r_v74 r_v67 main_call5 ++ (
    m7))))))

/-- The whole reference. -/
def line : List (A F) := partA ++ partB

end Cert.Proof.RefLine

end
-- ==== Proof.Words.lean ====
/-
  The random words: threefry-2x32 with the key `(0, 42)` on the counters of the 32 × 64 uniform numbers, as a function on words,
  and the check that the kernel's table of uniform numbers holds exactly the numbers `k / 2^23` that these words stand for.
-/
module

public import proofs.«01_k».proof.KernelIdeal

@[expose] public section

set_option maxRecDepth 65536

noncomputable section

namespace Cert.Proof.Words

/-- A word rotated left by `r`, where `r' = 32 - r`. -/
def rotl (x r r' : BitVec 32) : BitVec 32 := (x <<< r) ||| (x >>> r')

/-- One round: add, rotate, exclusive or. -/
def round (r r' : BitVec 32) (p : BitVec 32 × BitVec 32) : BitVec 32 × BitVec 32 :=
  (p.1 + p.2, (p.1 + p.2) ^^^ rotl p.2 r r')

/-- Four rounds with the rotations 13, 15, 26, 6. -/
def roundsA (p : BitVec 32 × BitVec 32) : BitVec 32 × BitVec 32 :=
  round 6#32 26#32 (round 26#32 6#32 (round 15#32 17#32 (round 13#32 19#32 p)))

/-- Four rounds with the rotations 17, 29, 16, 24. -/
def roundsB (p : BitVec 32 × BitVec 32) : BitVec 32 × BitVec 32 :=
  round 24#32 8#32 (round 16#32 16#32 (round 29#32 3#32 (round 17#32 15#32 p)))

/-- The key words `a` and `b + c` are added. -/
def inject (a b c : BitVec 32) (p : BitVec 32 × BitVec 32) : BitVec 32 × BitVec 32 := (p.1 + a, p.2 + b + c)

/-- Threefry-2x32: the key `k0`, `k1` and the counter `c0`, `c1`. -/
def threefry (k0 k1 c0 c1 : BitVec 32) : BitVec 32 × BitVec 32 :=
  let k2 := k0 ^^^ k1 ^^^ 466688986#32
  inject k2 k0 5#32 (roundsA (inject k1 k2 4#32 (roundsB (inject k0 k1 3#32 (roundsA (inject k2 k0 2#32
    (roundsB (inject k1 k2 1#32 (roundsA (c0 + k0, c1 + k1))))))))))

/-- The 23 random bits of the number at position `i` of the 32 × 64 uniform numbers. -/
def bits (i : Nat) : BitVec 32 :=
  let p := threefry 0#32 42#32 0#32 (BitVec.ofNat 32 i)
  (p.1 ^^^ p.2) >>> 9#32

/-- The table's word at position `i` is the f32 of `k / 2^23`: `2^23 + fraction = k * 2^(127 - exponent)`. -/
def check (i : Nat) : Bool :=
  let t := (Cert.KernelIdeal.lit0t i).toNat
  let e := t / 2 ^ 23
  Nat.blt 0 e && Nat.blt e 127 && Nat.beq (2 ^ 23 + t % 2 ^ 23) ((bits i).toNat * 2 ^ (127 - e))

theorem check_all : (List.range 2048).all check = true := by decide +kernel

end Cert.Proof.Words

end
-- ==== Proof.RandWords.lean ====
/-
  The reference's random words: any contents that satisfy the line's equations for one call of @threefry2x32 hold, at every
  index, the words of `Words.threefry`.
-/
module

public import proofs.«01_k».proof.Proof.RefLine
public import proofs.«01_k».proof.Proof.Words
public import Idealize.ShloMosaic.Lib.Pointwise

@[expose] public section

set_option maxRecDepth 16384

noncomputable section

namespace Cert.Proof.RandWords

open Cert.ReferenceIdeal Cert.ReferenceIdeal.Gen Cert.Line Cert.Proof.RefLine Cert.Proof.Words
open Idealize.ShloMosaic Idealize.ShloMosaic.TcCoe Idealize.ShloMosaic.StableHlo

variable {F : FTy → Type} [FloatOps F] {V : Valuation τ sig (Elt F)}

/-- The equations of a list of operations hold of the contents `V`. -/
abbrev Holds (V : Valuation τ sig (Elt F)) (l : List (A F)) : Prop := l.Forall fun a => a.eqn V

theorem Holds.append {l l' : List (A F)} (h : Holds V (l ++ l')) : Holds V l ∧ Holds V l' := List.forall_append.1 h

/-- A scalar spread over all positions. -/
theorem spread {α : Type} (x : S_.Idx → α) (j : S32x64.Idx) :
    broadcastInDim S32x64 ![] bcast_S_S32x64 x j = x ix0 := congrArg x (Subsingleton.elim _ _)

/-- One rotation by `r`. -/
theorem rot_get {x0 x1 : R S32x64 .i32} {c : R S_ .i32} {b s : R S32x64 .i32} {c' : R S_ .i32} {b' t o x : R S32x64 .i32}
    {r r' : BitVec 32} (h : Holds V (rot x0 x1 c b s c' b' t o x r r')) (hr : r.toNat < 32) (hr' : r'.toNat < 32) (j : S32x64.Idx) :
    get V x j = get V x0 j ^^^ rotl (get V x1 j) r r' := by
  obtain ⟨hc, hb, hs, hc', hb', ht, ho, hx⟩ := h
  have hc : get V c = _ := hc
  have hb : get V b = _ := hb
  have hs : get V s = _ := hs
  have hc' : get V c' = _ := hc'
  have hb' : get V b' = _ := hb'
  have ht : get V t = _ := ht
  have ho : get V o = _ := ho
  have hx : get V x = _ := hx
  have e1 : get V s j = get V x1 j <<< r := by
    rw [hs, hb, hc]
    show IntOp.shli .host (get V x1 j) r = _
    unfold IntOp.shli; rw [if_pos hr]
  have e2 : get V t j = get V x1 j >>> r' := by
    rw [ht, hb', hc']
    show IntOp.shrui .host (get V x1 j) r' = _
    unfold IntOp.shrui; rw [if_pos hr']
  rw [hx]
  show get V x0 j ^^^ get V o j = _
  rw [ho]
  show get V x0 j ^^^ (get V s j ||| get V t j) = _
  rw [e1, e2]; rfl

/-- A sum of words. -/
theorem add_get {a b y : R S32x64 .i32} (h : get V y = addi (get V a) (get V b)) (j : S32x64.Idx) :
    get V y j = get V a j + get V b j := by rw [h]; rfl

/-- Four rounds with the rotations of `roundsA`, and what follows them. -/
theorem blockA {x0 x1 y0 y1 z0 z1 w0 w1 v1 : R S32x64 .i32} {c1 c2 c3 c4 d1 d2 d3 d4 : R S_ .i32}
    {b1 b2 b3 b4 s1 s2 s3 s4 a1 a2 a3 a4 t1 t2 t3 t4 o1 o2 o3 o4 : R S32x64 .i32} {L : List (A F)}
    (h : Holds V (rot x0 x1 c1 b1 s1 d1 a1 t1 o1 y1 13#32 19#32 ++ ([asg2 x0 y1 y0 addi] ++
      (rot y0 y1 c2 b2 s2 d2 a2 t2 o2 z1 15#32 17#32 ++ ([asg2 y0 z1 z0 addi] ++
      (rot z0 z1 c3 b3 s3 d3 a3 t3 o3 w1 26#32 6#32 ++ ([asg2 z0 w1 w0 addi] ++
      (rot w0 w1 c4 b4 s4 d4 a4 t4 o4 v1 6#32 26#32 ++ L))))))))
    {j : S32x64.Idx} {a : BitVec 32} (e : get V x0 j = a + get V x1 j) :
    (get V w0 j, get V v1 j) = roundsA (a, get V x1 j) ∧ Holds V L := by
  obtain ⟨h1, h⟩ := Holds.append h
  obtain ⟨h2, h⟩ := Holds.append h
  obtain ⟨h3, h⟩ := Holds.append h
  obtain ⟨h4, h⟩ := Holds.append h
  obtain ⟨h5, h⟩ := Holds.append h
  obtain ⟨h6, h⟩ := Holds.append h
  obtain ⟨h7, h⟩ := Holds.append h
  refine ⟨?_, h⟩
  rw [rot_get h7 (by decide) (by decide), add_get h6, rot_get h5 (by decide) (by decide), add_get h4,
    rot_get h3 (by decide) (by decide), add_get h2, rot_get h1 (by decide) (by decide), e]
  rfl

/-- Four rounds with the rotations of `roundsB`, and what follows them. -/
theorem blockB {x0 x1 y0 y1 z0 z1 w0 w1 v1 : R S32x64 .i32} {c1 c2 c3 c4 d1 d2 d3 d4 : R S_ .i32}
    {b1 b2 b3 b4 s1 s2 s3 s4 a1 a2 a3 a4 t1 t2 t3 t4 o1 o2 o3 o4 : R S32x64 .i32} {L : List (A F)}
    (h : Holds V (rot x0 x1 c1 b1 s1 d1 a1 t1 o1 y1 17#32 15#32 ++ ([asg2 x0 y1 y0 addi] ++
      (rot y0 y1 c2 b2 s2 d2 a2 t2 o2 z1 29#32 3#32 ++ ([asg2 y0 z1 z0 addi] ++
      (rot z0 z1 c3 b3 s3 d3 a3 t3 o3 w1 16#32 16#32 ++ ([asg2 z0 w1 w0 addi] ++
      (rot w0 w1 c4 b4 s4 d4 a4 t4 o4 v1 24#32 8#32 ++ L))))))))
    {j : S32x64.Idx} {a : BitVec 32} (e : get V x0 j = a + get V x1 j) :
    (get V w0 j, get V v1 j) = roundsB (a, get V x1 j) ∧ Holds V L := by
  obtain ⟨h1, h⟩ := Holds.append h
  obtain ⟨h2, h⟩ := Holds.append h
  obtain ⟨h3, h⟩ := Holds.append h
  obtain ⟨h4, h⟩ := Holds.append h
  obtain ⟨h5, h⟩ := Holds.append h
  obtain ⟨h6, h⟩ := Holds.append h
  obtain ⟨h7, h⟩ := Holds.append h
  refine ⟨?_, h⟩
  rw [rot_get h7 (by decide) (by decide), add_get h6, rot_get h5 (by decide) (by decide), add_get h4,
    rot_get h3 (by decide) (by decide), add_get h2, rot_get h1 (by decide) (by decide), e]
  rfl

/-- A key injection: the two key words spread and the constant `q`. -/
theorem inject_of {ka kb : R S_ .i32} {x y bA sA bB sB : R S32x64 .i32} {c : R S_ .i32} {bC sC : R S32x64 .i32} {q : BitVec 32}
    (h : Holds V [asg1 ka bA (broadcastInDim S32x64 ![] bcast_S_S32x64), asg2 x bA sA addi,
      asg1 kb bB (broadcastInDim S32x64 ![] bcast_S_S32x64), asg2 y bB sB addi, asg0 c (constantI S_ 32 q),
      asg1 c bC (broadcastInDim S32x64 ![] bcast_S_S32x64), asg2 sB bC sC addi]) (j : S32x64.Idx) :
    (get V sA j, get V sC j) = inject (get V ka ix0) (get V kb ix0) q (get V x j, get V y j) := by
  obtain ⟨h1, h2, h3, h4, h5, h6, h7⟩ := h
  have h1 : get V bA = _ := h1
  have h3 : get V bB = _ := h3
  have h5 : get V c = _ := h5
  have h6 : get V bC = _ := h6
  rw [add_get h2, add_get h7, add_get h4, h1, h3, h6, h5, spread, spread]
  rfl

variable {k0 k1 : R S_ .i32} {c0 c1 : R S32x64 .i32} {φ : fn_threefry2x32.Bufs}

theorem tf0_get (h : Holds V (tf0 k0 k1 c0 c1 φ)) :
    get V φ.v1 ix0 = get V k0 ix0 ^^^ get V k1 ix0 ^^^ 466688986#32
      ∧ ∀ j, (get V φ.v3 j, get V φ.v5 j) = (get V c0 j + get V k0 ix0, get V c1 j + get V k1 ix0)
        ∧ get V φ.v6 j = get V φ.v3 j + get V φ.v5 j := by
  obtain ⟨h1, h2, h3, h4, h5, h6, h7, h8⟩ := h
  have h1 : get V φ.v0 = _ := h1
  have h2 : get V φ.c = _ := h2
  have h3 : get V φ.v1 = _ := h3
  have h4 : get V φ.v2 = _ := h4
  have h6 : get V φ.v4 = _ := h6
  refine ⟨by rw [h3, h1, h2]; rfl, fun j => ⟨?_, add_get h8 j⟩⟩
  rw [add_get h5, add_get h7, h4, h6, spread, spread]

/-- What a piece of @threefry2x32 leaves: the two words, and their sum, which the next piece starts from. -/
def Leaves (V : Valuation τ sig (Elt F)) (j : S32x64.Idx) (x y s : R S32x64 .i32) (p : BitVec 32 × BitVec 32) : Prop :=
  (get V x j, get V y j) = p ∧ get V s j = get V x j + get V y j

theorem tf1_get (h : Holds V (tf1 k0 k1 c0 c1 φ)) {j : S32x64.Idx} {p : BitVec 32 × BitVec 32} (e : Leaves V j φ.v3 φ.v5 φ.v6 p) :
    Leaves V j φ.v35 φ.v39 φ.v40 (inject (get V k1 ix0) (get V φ.v1 ix0) 1#32 (roundsA p)) := by
  obtain ⟨e1, h1, h2, h3, h4, h5, h6, h7, h8⟩ := blockA h e.2
  exact ⟨by rw [inject_of ⟨h1, h2, h3, h4, h5, h6, h7⟩ j, e1, e.1], add_get h8 j⟩

theorem tf2_get (h : Holds V (tf2 k0 k1 c0 c1 φ)) {j : S32x64.Idx} {p : BitVec 32 × BitVec 32} (e : Leaves V j φ.v35 φ.v39 φ.v40 p) :
    Leaves V j φ.v69 φ.v73 φ.v74 (inject (get V φ.v1 ix0) (get V k0 ix0) 2#32 (roundsB p)) := by
  obtain ⟨e1, h1, h2, h3, h4, h5, h6, h7, h8⟩ := blockB h e.2
  exact ⟨by rw [inject_of ⟨h1, h2, h3, h4, h5, h6, h7⟩ j, e1, e.1], add_get h8 j⟩

theorem tf3_get (h : Holds V (tf3 k0 k1 c0 c1 φ)) {j : S32x64.Idx} {p : BitVec 32 × BitVec 32} (e : Leaves V j φ.v69 φ.v73 φ.v74 p) :
    Leaves V j φ.v103 φ.v107 φ.v108 (inject (get V k0 ix0) (get V k1 ix0) 3#32 (roundsA p)) := by
  obtain ⟨e1, h1, h2, h3, h4, h5, h6, h7, h8⟩ := blockA h e.2
  exact ⟨by rw [inject_of ⟨h1, h2, h3, h4, h5, h6, h7⟩ j, e1, e.1], add_get h8 j⟩

theorem tf4_get (h : Holds V (tf4 k0 k1 c0 c1 φ)) {j : S32x64.Idx} {p : BitVec 32 × BitVec 32} (e : Leaves V j φ.v103 φ.v107 φ.v108 p) :
    Leaves V j φ.v137 φ.v141 φ.v142 (inject (get V k1 ix0) (get V φ.v1 ix0) 4#32 (roundsB p)) := by
  obtain ⟨e1, h1, h2, h3, h4, h5, h6, h7, h8⟩ := blockB h e.2
  exact ⟨by rw [inject_of ⟨h1, h2, h3, h4, h5, h6, h7⟩ j, e1, e.1], add_get h8 j⟩

theorem tf5_get (h : Holds V (tf5 k0 k1 c0 c1 φ)) {j : S32x64.Idx} {p : BitVec 32 × BitVec 32} (e : Leaves V j φ.v137 φ.v141 φ.v142 p) :
    (get V φ.v171 j, get V φ.v175 j) = inject (get V φ.v1 ix0) (get V k0 ix0) 5#32 (roundsA p) := by
  obtain ⟨e1, h⟩ := blockA h e.2
  rw [inject_of h j, e1, e.1]

/-- One call of @threefry2x32 leaves the two words of threefry. -/
theorem threefry_get (h : Holds V (RefLine.threefry k0 k1 c0 c1 φ)) (j : S32x64.Idx) :
    (get V φ.v171 j, get V φ.v175 j)
      = Words.threefry (get V k0 ix0) (get V k1 ix0) (get V c0 j) (get V c1 j) := by
  obtain ⟨h0, h⟩ := Holds.append h
  obtain ⟨h1, h⟩ := Holds.append h
  obtain ⟨h2, h⟩ := Holds.append h
  obtain ⟨h3, h⟩ := Holds.append h
  obtain ⟨h4, h5⟩ := Holds.append h
  obtain ⟨e, e0⟩ := tf0_get h0
  rw [tf5_get h5 (tf4_get h4 (tf3_get h3 (tf2_get h2 (tf1_get h1 (e0 j))))), e]
  rfl

end Cert.Proof.RandWords

end
-- ==== Proof.Means.lean ====
/-
  The 4 × 4 block means: the reference's sum over the two inner axes of the reshaped features, divided by sixteen, is the
  product with the pooling table, scaled by a sixteenth.
-/
module

public import proofs.«01_k».proof.ReferenceIdeal
public import proofs.«01_k».proof.Proof.Gen.ReferenceIdeal
public import Idealize.ShloMosaic.Lib.Pointwise

@[expose] public section

set_option maxRecDepth 16384

noncomputable section

namespace Cert.Proof.Means

open Cert.ReferenceIdeal Cert.ReferenceIdeal.Gen
open Idealize.ShloMosaic

/-- Position `n` of the 32 × 32 grid lies in the 4 × 4 block number `m`. -/
abbrev InBlock (m : Nat) (n : Fin 1024) : Prop := n.val / 32 / 4 * 8 + n.val % 32 / 4 = m

/-- The element of a 32 × 32 grid's channel at the position numbered `n`. -/
abbrev pt (x : FVec Ideal S32x768x32x32 .f32) (b : Fin 32) (d : Fin 768) (n : Fin 1024) : EReal :=
  x (ix4 b d ⟨n.val / 32, by omega⟩ ⟨n.val % 32, by omega⟩)

/-- The sum over the two inner axes is the sum over the positions of the block. -/
theorem pooled (x : FVec Ideal S32x768x32x32 .f32) (z : EReal) (b : Fin 32) (d : Fin 768) (p q : Fin 8) :
    Ideal.hostReduceAdd reducesTo_S32x768x8x4x8x4_S32x768x8x8_d3_5
        (shapeCast S32x768x8x4x8x4 x shapeCasts_S32x768x32x32_S32x768x8x4x8x4) z (ix4 b d p q)
      = z + ∑ n : Fin 1024, if InBlock (p.val * 8 + q.val) n then pt x b d n else 0 := by
  unfold Ideal.hostReduceAdd
  rw [← Finset.sum_filter]
  congr 1
  have hdrop : ∀ i : S32x768x8x4x8x4.Idx, reducesTo_S32x768x8x4x8x4_S32x768x8x8_d3_5.drop i = ix4 b d p q ↔
      i 0 = b ∧ i 1 = d ∧ i 2 = p ∧ i 4 = q := by
    intro i
    constructor
    · intro e
      exact ⟨Fin.ext (congrArg Fin.val (congrFun e 0)), Fin.ext (congrArg Fin.val (congrFun e 1)),
        Fin.ext (congrArg Fin.val (congrFun e 2)), Fin.ext (congrArg Fin.val (congrFun e 3))⟩
    · rintro ⟨h0, h1, h2, h3⟩
      funext a
      apply Fin.ext
      match a with
      | ⟨0, _⟩ => exact congrArg Fin.val h0
      | ⟨1, _⟩ => exact congrArg Fin.val h1
      | ⟨2, _⟩ => exact congrArg Fin.val h2
      | ⟨3, _⟩ => exact congrArg Fin.val h3
  refine (Finset.sum_nbij' (fun n : Fin 1024 => (ix6 b d ⟨n.val / 32 / 4, by omega⟩ ⟨n.val / 32 % 4, by omega⟩
      ⟨n.val % 32 / 4, by omega⟩ ⟨n.val % 32 % 4, by omega⟩ : S32x768x8x4x8x4.Idx))
    (fun i : S32x768x8x4x8x4.Idx => ⟨32 * (4 * (i 2).val + (i 3).val) + (4 * (i 4).val + (i 5).val), by
      have h2 : (i 2).val < 8 := (i 2).isLt
      have h3 : (i 3).val < 4 := (i 3).isLt
      have h4 : (i 4).val < 8 := (i 4).isLt
      have h5 : (i 5).val < 4 := (i 5).isLt
      omega⟩) ?_ ?_ ?_ ?_ ?_).symm
  · intro n hn
    have hn := (Finset.mem_filter.1 hn).2
    have hp := p.isLt
    have hq := q.isLt
    have hl := n.isLt
    refine Finset.mem_filter.2 ⟨Finset.mem_univ _, (hdrop _).2 ⟨rfl, rfl, Fin.ext ?_, Fin.ext ?_⟩⟩
    · show n.val / 32 / 4 = p.val; unfold InBlock at hn; omega
    · show n.val % 32 / 4 = q.val; unfold InBlock at hn; omega
  · intro i hi
    obtain ⟨-, -, h2, h4⟩ := (hdrop _).1 (Finset.mem_filter.1 hi).2
    have h3 : (i 3).val < 4 := (i 3).isLt
    have h5 : (i 5).val < 4 := (i 5).isLt
    have h2' := congrArg Fin.val h2
    have h4' := congrArg Fin.val h4
    have hp := p.isLt
    have hq := q.isLt
    refine Finset.mem_filter.2 ⟨Finset.mem_univ _, ?_⟩
    show (32 * (4 * (i 2).val + (i 3).val) + (4 * (i 4).val + (i 5).val)) / 32 / 4 * 8
      + (32 * (4 * (i 2).val + (i 3).val) + (4 * (i 4).val + (i 5).val)) % 32 / 4 = p.val * 8 + q.val
    omega
  · intro n hn
    apply Fin.ext
    show 32 * (4 * (n.val / 32 / 4) + n.val / 32 % 4) + (4 * (n.val % 32 / 4) + n.val % 32 % 4) = n.val
    omega
  · intro i hi
    obtain ⟨h0, h1, h2, h4⟩ := (hdrop _).1 (Finset.mem_filter.1 hi).2
    have h2 : (i 2).val < 8 := (i 2).isLt
    have h3 : (i 3).val < 4 := (i 3).isLt
    have h4 : (i 4).val < 8 := (i 4).isLt
    have h5 : (i 5).val < 4 := (i 5).isLt
    funext a
    apply Fin.ext
    match a with
    | ⟨0, _⟩ => exact (congrArg Fin.val h0).symm
    | ⟨1, _⟩ => exact (congrArg Fin.val h1).symm
    | ⟨2, _⟩ => show (32 * (4 * (i 2).val + (i 3).val) + (4 * (i 4).val + (i 5).val)) / 32 / 4 = (i 2).val; omega
    | ⟨3, _⟩ => show (32 * (4 * (i 2).val + (i 3).val) + (4 * (i 4).val + (i 5).val)) / 32 % 4 = (i 3).val; omega
    | ⟨4, _⟩ => show (32 * (4 * (i 2).val + (i 3).val) + (4 * (i 4).val + (i 5).val)) % 32 / 4 = (i 4).val; omega
    | ⟨5, _⟩ => show (32 * (4 * (i 2).val + (i 3).val) + (4 * (i 4).val + (i 5).val)) % 32 % 4 = (i 5).val; omega
  · intro n _
    unfold pt
    pointwise []
    congr 1
    refine congrArg₂ _ (Fin.ext ?_) (Fin.ext ?_)
    · show n.val / 32 = n.val / 32 / 4 * 4 + n.val / 32 % 4
      omega
    · show n.val % 32 = n.val % 32 / 4 * 4 + n.val % 32 % 4
      omega

/-- The f32 words of a sixteenth, of sixteen and of one. -/
theorem ofBits_sixteenth : Ideal.ofBits .f32 0x3D800000#32 = ((1 / 16 : ℝ) : EReal) := by
  simp [Ideal.ofBits, Ideal.ieee]
  rw [← EReal.coe_mul]
  norm_num

theorem ofBits_sixteen : Ideal.ofBits .f32 0x41800000#32 = ((16 : ℝ) : EReal) := by
  simp [Ideal.ofBits, Ideal.ieee]
  rw [← EReal.coe_mul]
  norm_num

theorem ofBits_one : Ideal.ofBits .f32 0x3F800000#32 = 1 := by
  simp [Ideal.ofBits, Ideal.ieee]
  rw [← EReal.coe_mul]
  norm_num

theorem ofBits_zero : Ideal.ofBits .f32 0x00000000#32 = 0 := by
  simp [Ideal.ofBits, Ideal.ieee]

/-- A sixteenth of a number, by a product or by a division. -/
theorem mul_sixteenth (s : EReal) :
    s * Ideal.ofBits .f32 0x3D800000#32 = Ideal.div s (Ideal.ofBits .f32 0x41800000#32) := by
  rw [ofBits_sixteenth, ofBits_sixteen]
  unfold Ideal.div
  rw [if_neg (by exact_mod_cast (by norm_num : (16 : ℝ) ≠ 0)), ← EReal.coe_inv]
  norm_num

end Cert.Proof.Means

end
-- ==== Proof.RefHead.lean ====
/-
  The reference's first part, read pointwise: the block means, the two normalisations, the product and the sigmoid.
-/
module

public import proofs.«01_k».proof.Proof.RandWords
public import proofs.«01_k».proof.Proof.Means
public import proofs.«01_k».proof.Proof.Spec

@[expose] public section

set_option maxRecDepth 16384

noncomputable section

namespace Cert.Proof.RefHead

open Cert.ReferenceIdeal Cert.ReferenceIdeal.Gen Cert.Line Cert.Proof.RefLine Cert.Proof.RandWords
open Idealize.ShloMosaic Idealize.ShloMosaic.TcCoe Idealize.ShloMosaic.StableHlo

variable {V : Valuation τ sig (Elt Ideal)}

/-- The mean of block `m` of channel `d`. -/
abbrev mean (x : FVec Ideal S32x768x32x32 .f32) (b : Fin 32) (d : Fin 768) (m : Fin 64) : EReal :=
  Ideal.div (∑ n : Fin 1024, if Means.InBlock m.val n then Means.pt x b d n else 0) (Ideal.ofBits .f32 0x41800000#32)

/-- The centre features. -/
theorem means_get (h : Holds V m0) (b : Fin 32) (m : Fin 64) (d : Fin 768) :
    (get V r_v5 : FVec Ideal S32x64x768 .f32) (ix3 b m d) = mean (get V r_arg0) b d m := by
  obtain ⟨h0, hc, h1, hc0, h2, h3, h4, h5, -, -⟩ := h
  have h0 : get V r_v0 = _ := h0
  have hc : get V r_cst = _ := hc
  have h1 : get V r_v1 = _ := h1
  have hc0 : get V r_cst_0 = _ := hc0
  have h2 : get V r_v2 = _ := h2
  have h3 : get V r_v3 = _ := h3
  have h4 : get V r_v4 = _ := h4
  have h5 : get V r_v5 = _ := h5
  rw [h5, h4, h3, h2, hc0, h1, hc, h0]
  generalize (get V r_arg0 : FVec Ideal S32x768x32x32 .f32) = x
  pointwise []
  rw [Means.pooled]
  have e : m.val / 8 * 8 + m.val % 8 = m.val := by omega
  rw [zero_add]
  unfold mean
  simp only [e]

/-- The point features. -/
theorem points_get (h : Holds V m0) (b : Fin 32) (n : Fin 1024) (d : Fin 768) :
    (get V r_v7 : FVec Ideal S32x1024x768 .f32) (ix3 b n d) = Means.pt (get V r_arg0) b d n := by
  obtain ⟨-, -, -, -, -, -, -, -, h6, h7⟩ := h
  have h6 : get V r_v6 = _ := h6
  have h7 : get V r_v7 = _ := h7
  rw [h7, h6]
  generalize (get V r_arg0 : FVec Ideal S32x768x32x32 .f32) = x
  unfold Means.pt
  pointwise []

/-- The norms of the centres. -/
theorem norm_get {a : R S32x64x768 .f32} {φ : fn_norm.Bufs} (h : Holds V (norm a φ)) (b : Fin 32) (m : Fin 64) :
    (get V φ.v3 : FVec Ideal S32x64x1 .f32) (ix3 b m 0)
      = Ideal.sqrt (∑ d : Fin 768, (get V a : FVec Ideal S32x64x768 .f32) (ix3 b m d) * (get V a : FVec Ideal S32x64x768 .f32) (ix3 b m d)) := by
  obtain ⟨h0, hc, h1, h2, h3⟩ := h
  have h0 : get V φ.v0 = _ := h0
  have hc : get V φ.cst = _ := hc
  have h1 : get V φ.v1 = _ := h1
  have h2 : get V φ.v2 = _ := h2
  have h3 : get V φ.v3 = _ := h3
  rw [h3, h2, h1, hc, h0]
  generalize (get V a : FVec Ideal S32x64x768 .f32) = x
  pointwise []

/-- The norms of the points. -/
theorem norm0_get {a : R S32x1024x768 .f32} {φ : fn_norm_0.Bufs} (h : Holds V (norm0 a φ)) (b : Fin 32) (n : Fin 1024) :
    (get V φ.v3 : FVec Ideal S32x1024x1 .f32) (ix3 b n 0)
      = Ideal.sqrt (∑ d : Fin 768, (get V a : FVec Ideal S32x1024x768 .f32) (ix3 b n d) * (get V a : FVec Ideal S32x1024x768 .f32) (ix3 b n d)) := by
  obtain ⟨h0, hc, h1, h2, h3⟩ := h
  have h0 : get V φ.v0 = _ := h0
  have hc : get V φ.cst = _ := hc
  have h1 : get V φ.v1 = _ := h1
  have h2 : get V φ.v2 = _ := h2
  have h3 : get V φ.v3 = _ := h3
  rw [h3, h2, h1, hc, h0]
  generalize (get V a : FVec Ideal S32x1024x768 .f32) = x
  pointwise []

/-- The normalised centres. -/
theorem centre_get (h : Holds V m1) (b : Fin 32) (m : Fin 64) (d : Fin 768) :
    (get V r_v12 : FVec Ideal S32x64x768 .f32) (ix3 b m d)
      = Ideal.div ((get V r_v5 : FVec Ideal S32x64x768 .f32) (ix3 b m d))
          (max ((get V r_v8 : FVec Ideal S32x64x1 .f32) (ix3 b m 0)) Spec.eps12) := by
  obtain ⟨hc, h9, h10, h11, h12⟩ := h
  have hc : get V r_cst_1 = _ := hc
  have h9 : get V r_v9 = _ := h9
  have h10 : get V r_v10 = _ := h10
  have h11 : get V r_v11 = _ := h11
  have h12 : get V r_v12 = _ := h12
  rw [h12, h11, h10, h9, hc]
  generalize (get V r_v5 : FVec Ideal S32x64x768 .f32) = x
  generalize (get V r_v8 : FVec Ideal S32x64x1 .f32) = y
  unfold Spec.eps12
  pointwise []

/-- The sigmoid of the product with the normalised points. -/
theorem sim_get (h : Holds V m2) (b : Fin 32) (m : Fin 64) (n : Fin 1024) :
    (get V r_v25 : FVec Ideal S32x64x1024 .f32) (ix3 b m n)
      = Ideal.logistic (∑ d : Fin 768, (get V r_v12 : FVec Ideal S32x64x768 .f32) (ix3 b m d)
          * Ideal.div ((get V r_v7 : FVec Ideal S32x1024x768 .f32) (ix3 b n d))
            (max ((get V r_v13 : FVec Ideal S32x1024x1 .f32) (ix3 b n 0)) Spec.eps12)) := by
  obtain ⟨hc, h14, h15, h16, h17, h18, h19, h20, h21, hc3, h22, h23, hc4, h24, h25⟩ := h
  have hc : get V r_cst_2 = _ := hc
  have h14 : get V r_v14 = _ := h14
  have h15 : get V r_v15 = _ := h15
  have h16 : get V r_v16 = _ := h16
  have h17 : get V r_v17 = _ := h17
  have h18 : get V r_v18 = _ := h18
  have h19 : get V r_v19 = _ := h19
  have h20 : get V r_v20 = _ := h20
  have h21 : get V r_v21 = _ := h21
  have hc3 : get V r_cst_3 = _ := hc3
  have h22 : get V r_v22 = _ := h22
  have h23 : get V r_v23 = _ := h23
  have hc4 : get V r_cst_4 = _ := hc4
  have h24 : get V r_v24 = _ := h24
  have h25 : get V r_v25 = _ := h25
  rw [h25, h24, hc4, h23, h22, hc3, h21, h20, h19, h18, h17, h16, h15, h14, hc]
  generalize (get V r_v12 : FVec Ideal S32x64x768 .f32) = c
  generalize (get V r_v7 : FVec Ideal S32x1024x768 .f32) = x
  generalize (get V r_v13 : FVec Ideal S32x1024x1 .f32) = y
  unfold Spec.eps12 Ideal.logistic
  pointwise []

/-- The similarities of the reference, from its argument. -/
theorem head_get (h0 : Holds V m0) (hn : Holds V (norm r_v5 main_call0)) (h1 : Holds V m1) (hn0 : Holds V (norm0 r_v7 main_call1))
    (h2 : Holds V m2) (b : Fin 32) (m : Fin 64) (n : Fin 1024) :
    (get V r_v25 : FVec Ideal S32x64x1024 .f32) (ix3 b m n)
      = Spec.sim (mean (get V r_arg0) b) (Means.pt (get V r_arg0) b) m n := by
  have e8 : ∀ m, (get V r_v8 : FVec Ideal S32x64x1 .f32) (ix3 b m 0) = _ := norm_get hn b
  have e13 : ∀ n, (get V r_v13 : FVec Ideal S32x1024x1 .f32) (ix3 b n 0) = _ := norm0_get hn0 b
  rw [sim_get h2]
  unfold Spec.sim Spec.hat
  simp only [centre_get h1, e8, e13, means_get h0, points_get h0]

end Cert.Proof.RefHead

end
-- ==== Proof.RefArgmax.lean ====
/-
  The reference's arg-max, read at the extended reals: a fold that keeps the better of two pairs ends at the best pair, so the
  index it leaves is the first position of the greatest value.
-/
module

public import proofs.«01_k».proof.Proof.RandWords
public import proofs.«01_k».proof.Proof.Spec
public import Idealize.ShloMosaic.PureOps.Reduce

@[expose] public section

set_option maxRecDepth 16384

noncomputable section

namespace Cert.Proof.RefArgmax

open Cert.ReferenceIdeal Cert.ReferenceIdeal.Gen Cert.Line Cert.Proof.RefLine Cert.Proof.RandWords
open Idealize.ShloMosaic Idealize.ShloMosaic.TcCoe Idealize.ShloMosaic.StableHlo

variable {V : Valuation τ sig (Elt Ideal)}

/-- A value with its index. -/
abbrev P : Type := Ideal .f32 × BitVec 32

/-- `p` is at least as good as `q`: a greater value, or the same value and no later an index. -/
def Better (p q : P) : Prop := q.1 < p.1 ∨ (q.1 = p.1 ∧ p.2.toInt ≤ q.2.toInt)

theorem Better.refl (p : P) : Better p p := Or.inr ⟨rfl, le_rfl⟩

theorem Better.trans {p q r : P} (h : Better p q) (h' : Better q r) : Better p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- The reducer returns one of its two pairs, and one that is at least as good as both. -/
theorem reducer_best (a b : P) :
    (reducer_argmax_f32_i32 a b = a ∨ reducer_argmax_f32_i32 a b = b)
      ∧ Better (reducer_argmax_f32_i32 a b) a ∧ Better (reducer_argmax_f32_i32 a b) b := by
  obtain ⟨a1, a2⟩ := a
  obtain ⟨b1, b2⟩ := b
  have hr : reducer_argmax_f32_i32 ((a1, a2) : P) (b1, b2)
      = (if b1 < a1 then a1 else b1, if b1 < a1 ∨ (a1 = b1 ∧ a2.toInt < b2.toInt) then a2 else b2) := by
    unfold reducer_argmax_f32_i32
    simp only [Ideal.cmpf_def, Ideal.cmp, IntOp.cmpi, IntOp.ori, IntOp.andi, Scalar.select, BitVec.slt]
    by_cases h1 : b1 < a1 <;> by_cases h2 : a1 = b1 <;> by_cases h3 : a2.toInt < b2.toInt <;> simp [h1, h2, h3]
  rw [hr]
  by_cases h : b1 < a1
  · rw [if_pos h, if_pos (Or.inl h)]
    exact ⟨Or.inl rfl, Better.refl _, Or.inl h⟩
  · rw [if_neg h]
    by_cases h' : a1 = b1 ∧ a2.toInt < b2.toInt
    · rw [if_pos (Or.inr h')]
      obtain ⟨rfl, hi⟩ := h'
      exact ⟨Or.inl rfl, Better.refl _, Or.inr ⟨rfl, hi.le⟩⟩
    · rw [if_neg (by rintro (h1 | h1); exacts [h h1, h' h1])]
      refine ⟨Or.inr rfl, ?_, Better.refl _⟩
      rcases lt_or_eq_of_le (not_lt.1 h) with h1 | h1
      · exact Or.inl h1
      · exact Or.inr ⟨h1, not_lt.1 fun h2 => h' ⟨h1, h2⟩⟩

/-- The fold over a list of pairs ends at a pair of the list or the initial one, at least as good as all. -/
theorem fold_best (l : List P) : ∀ p : P,
    l.foldl reducer_argmax_f32_i32 p ∈ p :: l ∧ ∀ q ∈ p :: l, Better (l.foldl reducer_argmax_f32_i32 p) q := by
  induction l with
  | nil =>
    intro p
    refine ⟨by simp, fun q hq => ?_⟩
    rw [List.mem_singleton] at hq
    exact hq ▸ Better.refl p
  | cons a l ih =>
    intro p
    obtain ⟨hm, hb⟩ := ih (reducer_argmax_f32_i32 p a)
    obtain ⟨ho, h1, h2⟩ := reducer_best p a
    rw [List.foldl_cons]
    have hr := hb _ (List.mem_cons_self ..)
    refine ⟨?_, fun q hq => ?_⟩
    · rcases List.mem_cons.1 hm with e | e
      · rcases ho with h | h <;> rw [e, h] <;> simp
      · exact List.mem_cons_of_mem _ (List.mem_cons_of_mem _ e)
    · rcases List.mem_cons.1 hq with e | e
      · exact e ▸ hr.trans h1
      · rcases List.mem_cons.1 e with e | e
        · exact e ▸ hr.trans h2
        · exact hb q (List.mem_cons_of_mem _ e)

/-- The fiber of the reduction over the centres: the pairs of a value and its centre's number. -/
theorem mem_fiber (x : FVec Ideal S32x64x1024 .f32) (b : Fin 32) (n : Fin 1024) (p : P) :
    p ∈ Host.argReduceFiber x (iotaInDim S32x64x1024 32 1) reducesTo_S32x64x1024_S32x1024_d1 (ix2 b n)
      ↔ ∃ k : Fin 64, p = (x (ix3 b k n), BitVec.ofNat 32 k.val) := by
  unfold Host.argReduceFiber
  simp only [List.mem_map, List.mem_filter, List.mem_finRange, true_and, decide_eq_true_eq]
  constructor
  · rintro ⟨i, hi, rfl⟩
    generalize S32x64x1024.rowMajor.symm i = j at hi ⊢
    refine ⟨j 1, ?_⟩
    have e : j = ix3 b (j 1) n := by
      funext a
      apply Fin.ext
      match a with
      | ⟨0, _⟩ => exact congrArg Fin.val (congrFun hi 0)
      | ⟨1, _⟩ => rfl
      | ⟨2, _⟩ => exact congrArg Fin.val (congrFun hi 1)
    exact Prod.ext (congrArg x e) rfl
  · rintro ⟨k, rfl⟩
    refine ⟨S32x64x1024.rowMajor (ix3 b k n), ?_, ?_⟩
    · rw [Equiv.symm_apply_apply]
      funext a
      apply Fin.ext
      match a with
      | ⟨0, _⟩ => rfl
      | ⟨1, _⟩ => rfl
    · rw [Equiv.symm_apply_apply]
      rfl

/-- A small word as a signed number. -/
theorem toInt_small (k : Fin 64) : (BitVec.ofNat 32 k.val).toInt = (k.val : Int) := by
  revert k
  decide

theorem bot_word : FloatOps.ofBits (F := Ideal) .f32 0xFF800000#32 = (⊥ : EReal) := by
  show Ideal.ofBits .f32 0xFF800000#32 = ⊥
  simp [Ideal.ofBits, Ideal.ieee]

/-- The index of the reduction. -/
theorem argReduce_at (x : FVec Ideal S32x64x1024 .f32) (b : Fin 32) (n : Fin 1024)
    (m : Fin 64) (hm : Spec.First (fun k => x (ix3 b k n)) m) :
    (Host.argReduce reducer_argmax_f32_i32 x (iotaInDim S32x64x1024 32 1) (constant S_ .f32 0xFF800000#32)
      (constantI S_ 32 0#32) reducesTo_S32x64x1024_S32x1024_d1 h_S_ (ix2 b n)).2 = BitVec.ofNat 32 m.val := by
  rw [Ideal.argReduce_eq_reduce2, Host.reduce2_eq_foldl_fiber]
  have hmem := fun p => mem_fiber x b n p
  generalize Host.argReduceFiber x (iotaInDim S32x64x1024 32 1) reducesTo_S32x64x1024_S32x1024_d1 (ix2 b n) = l at hmem ⊢
  have hi : ((constant (F := Ideal) S_ .f32 0xFF800000#32 (Shape.Idx.first h_S_), constantI S_ 32 0#32 (Shape.Idx.first h_S_)) : P)
      = ((⊥ : EReal), 0#32) := Prod.ext bot_word rfl
  rw [hi]
  obtain ⟨hr, hb⟩ := fold_best l ((⊥ : EReal), 0#32)
  generalize List.foldl reducer_argmax_f32_i32 ((⊥ : EReal), 0#32) l = r at hr hb ⊢
  have hk : ∀ k : Fin 64, Better r (x (ix3 b k n), BitVec.ofNat 32 k.val) := fun k =>
    hb _ (List.mem_cons_of_mem _ ((hmem _).2 ⟨k, rfl⟩))
  have hf : ∃ k : Fin 64, r = (x (ix3 b k n), BitVec.ofNat 32 k.val) := by
    rcases List.mem_cons.1 hr with e | e
    · refine ⟨0, e.trans ?_⟩
      rcases hk 0 with h0 | ⟨h0, -⟩
      · rw [e] at h0
        exact absurd h0 not_lt_bot
      · rw [e] at h0
        exact Prod.ext h0.symm rfl
    · exact (hmem _).1 e
  obtain ⟨k, rfl⟩ := hf
  have hfirst : Spec.First (fun k => x (ix3 b k n)) k := by
    refine ⟨fun j => ?_, fun j hj => ?_⟩
    · rcases hk j with h | ⟨h, -⟩
      · exact h.le
      · exact h.le
    · rcases hk j with h | ⟨-, h⟩
      · exact h
      · simp only [toInt_small] at h
        have : j.val < k.val := hj
        omega
  rw [Spec.First.unique hm hfirst]

/-- The index the reference's arg-max leaves. -/
theorem argmax_get {a : R S32x64x1024 .f32} {φ : fn_argmax.Bufs} (h : Holds V (argmax a φ)) (b : Fin 32) (n : Fin 1024)
    (m : Fin 64) (hm : Spec.First (fun k => (get V a : FVec Ideal S32x64x1024 .f32) (ix3 b k n)) m) :
    (get V φ.v1_1 : IVec S32x1024 32) (ix2 b n) = BitVec.ofNat 32 m.val := by
  obtain ⟨h0, hc, hc', -, h1⟩ := h
  have h0 : get V φ.v0 = _ := h0
  have hc : get V φ.cst = _ := hc
  have hc' : get V φ.c = _ := hc'
  have h1 : get V φ.v1_1 = _ := h1
  rw [h1, hc', hc, h0]
  generalize (get V a : FVec Ideal S32x64x1024 .f32) = x at hm ⊢
  exact argReduce_at x b n m hm

end Cert.Proof.RefArgmax

end
-- ==== Proof.Floats.lean ====
/-
  The f32 words of the uniform numbers as extended reals: `k` of 23 bits put under the exponent of one is `1 + k / 2^23`, and the
  kernel's table holds `k / 2^23`, `k` the random bits of the position.
-/
module

public import proofs.«01_k».proof.Proof.Words
public import Idealize.ShloMosaic.PureOps.Ideal.Laws

@[expose] public section

set_option maxRecDepth 16384

noncomputable section

namespace Cert.Proof.Floats

open Idealize.ShloMosaic

/-- A positive normal f32 word. -/
theorem normal_word (t : BitVec 32) (h0 : 0 < t.toNat / 2 ^ 23) (h1 : t.toNat / 2 ^ 23 < 255) :
    Ideal.ofBits .f32 t = (((2 ^ 23 + t.toNat % 2 ^ 23 : Nat) : ℝ) * (2 : ℝ) ^ ((t.toNat / 2 ^ 23 : Nat) - 150 : Int) : ℝ) := by
  have hs : t.extractLsb' 31 1 = 0#1 := by
    apply BitVec.eq_of_toNat_eq
    rw [BitVec.extractLsb'_toNat, Nat.shiftRight_eq_div_pow]
    show t.toNat / 2 ^ 31 % 2 = 0
    omega
  have he : (t.extractLsb' 23 8).toNat = t.toNat / 2 ^ 23 := by
    rw [BitVec.extractLsb'_toNat, Nat.shiftRight_eq_div_pow]
    omega
  have hf : (t.extractLsb' 0 23).toNat = t.toNat % 2 ^ 23 := by
    rw [BitVec.extractLsb'_toNat, Nat.shiftRight_eq_div_pow]
    omega
  show Ideal.ieee 8 23 t = _
  unfold Ideal.ieee
  simp only [hs, he, hf]
  rw [if_neg (by omega), if_neg (by omega)]
  have e : ((t.toNat / 2 ^ 23 : Nat) : Int) - (2 ^ (8 - 1) - 1) - ((23 : Nat) : Int) = ((t.toNat / 2 ^ 23 : Nat) : Int) - 150 := by
    norm_num; ring
  rw [e]
  simp

/-- 23 bits under the exponent of one. -/
theorem one_plus (w : BitVec 32) (hw : w.toNat < 2 ^ 23) :
    Ideal.ofBits .f32 (w ||| 0x3F800000#32) = ((1 + (w.toNat : ℝ) / 2 ^ 23 : ℝ) : EReal) := by
  have ht : (w ||| 0x3F800000#32).toNat = 127 * 2 ^ 23 + w.toNat := by
    rw [BitVec.toNat_or, Nat.or_comm]
    show 127 * 2 ^ 23 ||| w.toNat = _
    rw [Nat.mul_comm, Nat.two_pow_add_eq_or_of_lt hw]
  rw [normal_word _ (by omega) (by omega), ht, show (127 * 2 ^ 23 + w.toNat) / 2 ^ 23 = 127 by omega,
    show (127 * 2 ^ 23 + w.toNat) % 2 ^ 23 = w.toNat by omega]
  congr 1
  push_cast
  norm_num
  ring

/-- The bits are 23. -/
theorem bits_lt (x : BitVec 32) : (x >>> 9#32).toNat < 2 ^ 23 := by
  have := x.isLt
  rw [BitVec.ushiftRight_eq', BitVec.toNat_ushiftRight, Nat.shiftRight_eq_div_pow]
  show x.toNat / 2 ^ 9 < 2 ^ 23
  omega

/-- The kernel's table of uniform numbers. -/
theorem table (i : Nat) (hi : i < 2048) :
    Ideal.ofBits .f32 (Cert.KernelIdeal.lit0t i) = (((Words.bits i).toNat : ℝ) / 2 ^ 23 : ℝ) := by
  have h := (List.all_eq_true.1 Words.check_all) i (List.mem_range.2 hi)
  unfold Words.check at h
  simp only [Bool.and_eq_true] at h
  obtain ⟨⟨h0, h1⟩, h2⟩ := h
  have h0 := Nat.blt_eq.mp h0
  have h1 := Nat.blt_eq.mp h1
  have h2 := Nat.eq_of_beq_eq_true h2
  rw [normal_word _ h0 (by omega), h2]
  generalize (Cert.KernelIdeal.lit0t i).toNat / 2 ^ 23 = e at h1
  congr 1
  push_cast
  rw [mul_assoc, div_eq_mul_inv]
  congr 1
  rw [← zpow_natCast, ← zpow_add₀ (by norm_num : (2 : ℝ) ≠ 0), Nat.cast_sub h1.le,
    show ((127 : Nat) : Int) - (e : Int) + ((e : Int) - 150) = -23 by norm_num]
  norm_num

/-- The reference's steps from `1 + u` to the uniform number. -/
theorem steps (u : ℝ) (hu : 0 ≤ u) :
    max (0 : EReal) ((((1 + u : ℝ) : EReal) - 1) * (1 - 0) + 0) = (u : EReal) := by
  have e : ((1 + u : ℝ) : EReal) - 1 = (u : EReal) := by
    rw [← EReal.coe_one, ← EReal.coe_sub]
    norm_num
  rw [e, sub_zero, mul_one, add_zero]
  exact max_eq_right (by exact_mod_cast hu)

end Cert.Proof.Floats

end
-- ==== Proof.RefUniform.lean ====
/-
  The reference's uniform numbers: at `(b, k)` the entry of the kernel's table at row-major position `64 b + k`.
-/
module

public import proofs.«01_k».proof.Proof.RandWords
public import proofs.«01_k».proof.Proof.Floats
public import proofs.«01_k».proof.Proof.Means

@[expose] public section

set_option maxRecDepth 16384

noncomputable section

namespace Cert.Proof.RefUniform

open Cert.ReferenceIdeal Cert.ReferenceIdeal.Gen Cert.Line Cert.Proof.RefLine Cert.Proof.RandWords
open Idealize.ShloMosaic Idealize.ShloMosaic.TcCoe Idealize.ShloMosaic.StableHlo

variable {V : Valuation τ sig (Elt Ideal)}

/-- The key's words are zero and 42. -/
theorem key_get (h : Holds V m6) :
    (get V r_v74 : IVec S2 32) (ix1 0) = 0#32 ∧ (get V r_v74 : IVec S2 32) (ix1 1) = 42#32 := by
  obtain ⟨hc, hc', h68, h69, h70, hc'', h71, h72, h73, h74⟩ := h
  have hc : get V r_c_18 = _ := hc
  have hc' : get V r_c_19 = _ := hc'
  have h68 : get V r_v68 = _ := h68
  have h69 : get V r_v69 = _ := h69
  have h70 : get V r_v70 = _ := h70
  have hc'' : get V r_c_20 = _ := hc''
  have h71 : get V r_v71 = _ := h71
  have h72 : get V r_v72 = _ := h72
  have h73 : get V r_v73 = _ := h73
  have h74 : get V r_v74 = _ := h74
  rw [h74, h73, h72, h71, hc'', h70, h69, h68, hc', hc]
  constructor <;> pointwise []
  · rfl
  · rfl

/-- The position's counter: its high word is zero, its low word the row-major position. -/
theorem counter (b : Fin 32) (k : Fin 64) :
    ((64#64 * BitVec.ofNat 64 b.val + 1#64 * BitVec.ofNat 64 k.val) >>> 32#64).setWidth 32 = 0#32
      ∧ (64#64 * BitVec.ofNat 64 b.val + 1#64 * BitVec.ofNat 64 k.val).setWidth 32 = BitVec.ofNat 32 (b.val * 64 + k.val) := by
  have e : (64#64 * BitVec.ofNat 64 b.val + 1#64 * BitVec.ofNat 64 k.val).toNat = b.val * 64 + k.val := by
    rw [BitVec.toNat_add, BitVec.toNat_mul, BitVec.toNat_mul, BitVec.toNat_ofNat, BitVec.toNat_ofNat, BitVec.toNat_ofNat, BitVec.toNat_ofNat]
    omega
  constructor
  · apply BitVec.eq_of_toNat_eq
    rw [BitVec.toNat_setWidth, BitVec.ushiftRight_eq', BitVec.toNat_ushiftRight, e, Nat.shiftRight_eq_div_pow]
    show (b.val * 64 + k.val) / 2 ^ 32 % 2 ^ 32 = 0
    omega
  · apply BitVec.eq_of_toNat_eq
    rw [BitVec.toNat_setWidth, e, BitVec.toNat_ofNat]

/-- One uniform number, from the key's words. -/
theorem uniform_get {a : R S2 .i32} {lo hi : R S_ .f32} {φ : fn_uniform.Bufs} (h : Holds V (uniform a lo hi φ))
    (hlo : (get V lo : FVec Ideal S_ .f32) ix0 = 0) (hhi : (get V hi : FVec Ideal S_ .f32) ix0 = 1)
    (hk0 : (get V a : IVec S2 32) (ix1 0) = 0#32) (hk1 : (get V a : IVec S2 32) (ix1 1) = 42#32) (b : Fin 32) (k : Fin 64) :
    (get V φ.v34 : FVec Ideal S32x64 .f32) (ix2 b k) = Ideal.ofBits .f32 (Cert.KernelIdeal.lit0t (b.val * 64 + k.val)) := by
  obtain ⟨h1, h⟩ := Holds.append h
  obtain ⟨ht, h2⟩ := Holds.append h
  have w := threefry_get ht (ix2 b k)
  obtain ⟨h0, h1, h2', h3, h4, h5, h6, h7, h8, h9, hc, h10, h11, hc0, h12, h13, h14, hc1, h15, h16, h17, h18⟩ := h1
  have h0 : get V φ.v0 = _ := h0
  have h1 : get V φ.v1 = _ := h1
  have h2' : get V φ.v2 = _ := h2'
  have h3 : get V φ.v3 = _ := h3
  have h4 : get V φ.v4 = _ := h4
  have h5 : get V φ.v5 = _ := h5
  have h6 : get V φ.v6 = _ := h6
  have h7 : get V φ.v7 = _ := h7
  have h8 : get V φ.v8 = _ := h8
  have h9 : get V φ.v9 = _ := h9
  have hc : get V φ.c = _ := hc
  have h10 : get V φ.v10 = _ := h10
  have h11 : get V φ.v11 = _ := h11
  have hc0 : get V φ.c_0 = _ := hc0
  have h12 : get V φ.v12 = _ := h12
  have h13 : get V φ.v13 = _ := h13
  have h14 : get V φ.v14 = _ := h14
  have hc1 : get V φ.c_1 = _ := hc1
  have h15 : get V φ.v15 = _ := h15
  have h16 : get V φ.v16 = _ := h16
  have h17 : get V φ.v17 = _ := h17
  have h18 : get V φ.v18 = _ := h18
  have e5 : (get V φ.v5 : IVec S_ 32) ix0 = 0#32 := by
    rw [h5, h4]
    refine Eq.trans ?_ hk0
    generalize (get V a : IVec S2 32) = x
    pointwise []
  have e7 : (get V φ.v7 : IVec S_ 32) ix0 = 42#32 := by
    rw [h7, h6]
    refine Eq.trans ?_ hk1
    generalize (get V a : IVec S2 32) = x
    pointwise []
  have e14 : (get V φ.v14 : IVec S32x64 64) (ix2 b k) = 64#64 * BitVec.ofNat 64 b.val + 1#64 * BitVec.ofNat 64 k.val := by
    rw [h14, h13, h12, hc0, h11, h10, hc, h9, h8]
    rfl
  have e17 : (get V φ.v17 : IVec S32x64 32) (ix2 b k) = BitVec.ofNat 32 (b.val * 64 + k.val) := by
    rw [h17]
    show ((get V φ.v14 : IVec S32x64 64) (ix2 b k)).setWidth 32 = _
    rw [e14]
    exact (counter b k).2
  have e18 : (get V φ.v18 : IVec S32x64 32) (ix2 b k) = 0#32 := by
    rw [h18, h16, h15, hc1]
    show (IntOp.shrui .host ((get V φ.v14 : IVec S32x64 64) (ix2 b k)) 32#64).setWidth 32 = _
    rw [e14]
    unfold IntOp.shrui
    rw [if_pos (by decide)]
    exact (counter b k).1
  have w1 : ((get V φ.call0.v171 : IVec S32x64 32) (ix2 b k), (get V φ.call0.v175 : IVec S32x64 32) (ix2 b k))
      = Words.threefry 0#32 42#32 0#32 (BitVec.ofNat 32 (b.val * 64 + k.val)) :=
    w.trans (congr (congr (congrArg₂ Words.threefry e5 e7) e18) e17)
  obtain ⟨h20, hc2, h21, h22, hc3, h23, h24, h25, hcst, h26, h27, h28, h29, h30, h31, h32, h33, h34⟩ := h2
  have h20 : get V φ.v20 = _ := h20
  have hc2 : get V φ.c_2 = _ := hc2
  have h21 : get V φ.v21 = _ := h21
  have h22 : get V φ.v22 = _ := h22
  have hc3 : get V φ.c_3 = _ := hc3
  have h23 : get V φ.v23 = _ := h23
  have h24 : get V φ.v24 = _ := h24
  have h25 : get V φ.v25 = _ := h25
  have hcst : get V φ.cst = _ := hcst
  have h26 : get V φ.v26 = _ := h26
  have h27 : get V φ.v27 = _ := h27
  have h28 : get V φ.v28 = _ := h28
  have h29 : get V φ.v29 = _ := h29
  have h30 : get V φ.v30 = _ := h30
  have h31 : get V φ.v31 = _ := h31
  have h32 : get V φ.v32 = _ := h32
  have h33 : get V φ.v33 = _ := h33
  have h34 : get V φ.v34 = _ := h34
  have e22 : (get V φ.v22 : IVec S32x64 32) (ix2 b k) = Words.bits (b.val * 64 + k.val) := by
    rw [h22, h21, hc2, h20]
    show IntOp.shrui .host ((get V φ.call0.v171 : IVec S32x64 32) (ix2 b k) ^^^ (get V φ.call0.v175 : IVec S32x64 32) (ix2 b k)) 9#32 = _
    unfold IntOp.shrui
    rw [if_pos (by decide)]
    unfold Words.bits
    rw [← w1]
  have e25 : (get V φ.v25 : FVec Ideal S32x64 .f32) (ix2 b k)
      = ((1 + ((Words.bits (b.val * 64 + k.val)).toNat : ℝ) / 2 ^ 23 : ℝ) : EReal) := by
    rw [h25, h24, h23, hc3]
    show Ideal.ofBits .f32 ((get V φ.v22 : IVec S32x64 32) (ix2 b k) ||| 0x3F800000#32) = _
    rw [e22]
    exact Floats.one_plus _ (Floats.bits_lt _)
  have e34 : (get V φ.v34 : FVec Ideal S32x64 .f32) (ix2 b k)
      = max ((get V lo : FVec Ideal S_ .f32) ix0) (((get V φ.v25 : FVec Ideal S32x64 .f32) (ix2 b k) - Ideal.ofBits .f32 0x3F800000#32)
          * ((get V hi : FVec Ideal S_ .f32) ix0 - (get V lo : FVec Ideal S_ .f32) ix0) + (get V lo : FVec Ideal S_ .f32) ix0) := by
    rw [h34, h33, h32, h31, h30, h29, h28, h27, h26, hcst, h3, h2', h1, h0]
    generalize (get V lo : FVec Ideal S_ .f32) = l
    generalize (get V hi : FVec Ideal S_ .f32) = u
    generalize (get V φ.v25 : FVec Ideal S32x64 .f32) = x
    pointwise []
    rfl
  rw [e34, e25, hlo, hhi, Means.ofBits_one, Floats.table _ (by omega)]
  exact Floats.steps _ (by positivity)

end Cert.Proof.RefUniform

end
-- ==== Proof.RefScatter.lean ====
/-
  The reference's scatter of ones, read at the extended reals: where the index words of position `(b, n)` are `b`, the number of
  a centre and `n`, the result holds one at each point's own centre and the operand's value elsewhere.
-/
module

public import proofs.«01_k».proof.ReferenceIdeal
public import proofs.«01_k».proof.Proof.Gen.ReferenceIdeal
public import Idealize.ShloMosaic.Lib.Pointwise
public import Idealize.ShloMosaic.Lib.Routing.OpsSet
public import Idealize.ShloMosaic.Lib.Routing.OpsPair

@[expose] public section

set_option maxRecDepth 16384

noncomputable section

namespace Cert.Proof.RefScatter

open Cert.ReferenceIdeal Cert.ReferenceIdeal.Gen
open Idealize.ShloMosaic Idealize.ShloMosaic.Routing

abbrev dims := scatter_S32x64x1024_S32x1024x3_S32x1024_n_012_012_2

/-- The start of an update on an axis is the signed value of its index word there. -/
theorem start_eq (idx : IVec S32x1024x3 32) (b : Fin 32) (n : Fin 1024) (a : Fin 3) :
    dims.start (ix2 b n) idx a = (idx (ix3 b n a)).toInt := by
  unfold ScatterDims.start
  rw [dif_pos (by revert a; decide)]
  congr 2
  funext c
  apply Fin.ext
  fin_cases a <;> fin_cases c <;> rfl

/-- There is no window. -/
theorem window_eq (b : Fin 32) (n : Fin 1024) (a : Fin 3) : dims.window (ix2 b n) a = 0 := by
  unfold ScatterDims.window
  rw [dif_neg (by revert a; decide)]

/-- Where an update lands. -/
theorem lands (idx : IVec S32x1024x3 32) (b : Fin 32) (n : Fin 1024) (β : Fin 32) (μ : Fin 64) (ν : Fin 1024) :
    dims.resultIdx? (ix2 b n) idx = some (ix3 β μ ν)
      ↔ (idx (ix3 b n 0)).toInt = β.val ∧ (idx (ix3 b n 1)).toInt = μ.val ∧ (idx (ix3 b n 2)).toInt = ν.val := by
  rw [resultIdx?_eq_some]
  constructor
  · intro h
    refine ⟨?_, ?_, ?_⟩
    · have := h 0; rw [start_eq, window_eq] at this; simpa using this
    · have := h 1; rw [start_eq, window_eq] at this; simpa using this
    · have := h 2; rw [start_eq, window_eq] at this; simpa using this
  · rintro ⟨h0, h1, h2⟩ a
    rw [start_eq, window_eq]
    match a with
    | ⟨0, _⟩ => simpa using h0
    | ⟨1, _⟩ => simpa using h1
    | ⟨2, _⟩ => simpa using h2

/-- The scatter of a constant `v`, point `n` of batch `b` at centre `g b n`. -/
theorem scatter_at (x : FVec Ideal S32x64x1024 .f32) (idx : IVec S32x1024x3 32) (upd : FVec Ideal S32x1024 .f32) (v : EReal)
    (g : Fin 32 → Fin 1024 → Fin 64) (h0 : ∀ b n, idx (ix3 b n 0) = BitVec.ofNat 32 b.val)
    (h1 : ∀ b n, idx (ix3 b n 1) = BitVec.ofNat 32 (g b n).val) (h2 : ∀ b n, idx (ix3 b n 2) = BitVec.ofNat 32 n.val)
    (hu : ∀ b n, upd (ix2 b n) = v) (b : Fin 32) (m : Fin 64) (n : Fin 1024) :
    Host.scatter dims (fun _ b => b) x idx upd (ix3 b m n) = if g b n = m then v else x (ix3 b m n) := by
  have small : ∀ k : Nat, k < 2 ^ 31 → (BitVec.ofNat 32 k).toInt = (k : Int) := fun k hk =>
    StableHlo.Predicate.toInt_ofNat_small _ hk
  have l : ∀ (b' : Fin 32) (n' : Fin 1024), dims.resultIdx? (ix2 b' n') idx = some (ix3 b m n) ↔ b' = b ∧ g b' n' = m ∧ n' = n := by
    intro b' n'
    rw [lands, h0, h1, h2, small _ (by omega), small _ (by omega), small _ (by omega)]
    simp only [Nat.cast_inj, Fin.val_inj]
  have hix : ∀ k : S32x1024.Idx, k = ix2 (k 0) (k 1) := fun k => funext fun a => by
    match a with
    | ⟨0, _⟩ => rfl
    | ⟨1, _⟩ => rfl
  by_cases e : g b n = m
  · rw [if_pos e]
    exact scatter_set_hit dims x idx upd (ix3 b m n) v (fun k _ => by rw [hix k]; exact hu _ _) (ix2 b n) ((l b n).2 ⟨rfl, e, rfl⟩)
  · rw [if_neg e]
    refine scatter_set_miss dims x idx upd (ix3 b m n) fun k hk => ?_
    rw [hix k] at hk
    obtain ⟨h1, h2, h3⟩ := (l _ _).1 hk
    rw [h1, h3] at h2
    exact e h2

end Cert.Proof.RefScatter

end
-- ==== Proof.RefTail.lean ====
/-
  The reference's second part, read pointwise: the indices of the scatter, the clusters' means and probabilities, and the sum
  that gives the result.
-/
module

public import proofs.«01_k».proof.Proof.RandWords
public import proofs.«01_k».proof.Proof.RefScatter
public import proofs.«01_k».proof.Proof.Means
public import proofs.«01_k».proof.Proof.Spec

@[expose] public section

set_option maxRecDepth 16384

noncomputable section

namespace Cert.Proof.RefTail

open Cert.ReferenceIdeal Cert.ReferenceIdeal.Gen Cert.Line Cert.Proof.RefLine Cert.Proof.RandWords
open Idealize.ShloMosaic Idealize.ShloMosaic.TcCoe Idealize.ShloMosaic.StableHlo

variable {V : Valuation τ sig (Elt Ideal)}

/-- A small index is left as it is by the step that wraps a negative one. -/
theorem wrap (k : Nat) (hk : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

/-- The indices of batch, centre and point. -/
theorem index_get (h : Holds V m3) (g : Fin 32 → Fin 1024 → Fin 64)
    (hg : ∀ b n, (get V r_v26 : IVec S32x1024 32) (ix2 b n) = BitVec.ofNat 32 (g b n).val) :
    (∀ b : Fin 32, (get V r_v36 : IVec S32x1 32) (ix2 b 0) = BitVec.ofNat 32 b.val)
      ∧ (∀ b n, (get V r_v41 : IVec S32x1024 32) (ix2 b n) = BitVec.ofNat 32 (g b n).val)
      ∧ (∀ n : Fin 1024, (get V r_v46 : IVec S1x1024 32) (ix2 0 n) = BitVec.ofNat 32 n.val)
      ∧ get V r_v31 = broadcastInDim S32x64x1024 ![] bcast_S_S32x64x1024 (constant (F := Ideal) S_ .f32 0x00000000#32) := by
  obtain ⟨h27, h28, h29, h30, hc5, h31, hc, h32, h33, hc6, h34, h35, h36, hc7, h37, h38, hc8, h39, h40, h41, hc9, h42, h43, hc10,
    h44, h45, h46⟩ := h
  have h27 : get V r_v27 = _ := h27
  have h28 : get V r_v28 = _ := h28
  have h29 : get V r_v29 = _ := h29
  have h30 : get V r_v30 = _ := h30
  have hc5 : get V r_cst_5 = _ := hc5
  have h31 : get V r_v31 = _ := h31
  have hc : get V r_c = _ := hc
  have h32 : get V r_v32 = _ := h32
  have h33 : get V r_v33 = _ := h33
  have hc6 : get V r_c_6 = _ := hc6
  have h34 : get V r_v34 = _ := h34
  have h35 : get V r_v35 = _ := h35
  have h36 : get V r_v36 = _ := h36
  have hc7 : get V r_c_7 = _ := hc7
  have h37 : get V r_v37 = _ := h37
  have h38 : get V r_v38 = _ := h38
  have h41 : get V r_v41 = _ := h41
  have hc9 : get V r_c_9 = _ := hc9
  have h42 : get V r_v42 = _ := h42
  have h43 : get V r_v43 = _ := h43
  have h46 : get V r_v46 = _ := h46
  refine ⟨fun b => ?_, fun b n => ?_, fun n => ?_, ?_⟩
  · rw [h36, h33, h32, hc, h28, h27]
    exact wrap b.val (by omega) _
  · rw [h41, h38, h37, hc7]
    show Scalar.select (IntOp.cmpi .slt ((get V r_v26 : IVec S32x1024 32) (ix2 b n)) 0#32) _ ((get V r_v26 : IVec S32x1024 32) (ix2 b n)) = _
    rw [hg]
    exact wrap _ (by omega) _
  · rw [h46, h43, h42, hc9, h30, h29]
    exact wrap n.val (by omega) _
  · rw [h31, hc5]

/-- The scatter's result: one at each point's centre, zero elsewhere. -/
theorem onehot_get (h3 : Holds V m3) (h4 : Holds V m4) (g : Fin 32 → Fin 1024 → Fin 64)
    (hg : ∀ b n, (get V r_v26 : IVec S32x1024 32) (ix2 b n) = BitVec.ofNat 32 (g b n).val) (b : Fin 32) (m : Fin 64) (n : Fin 1024) :
    (get V r_v54 : FVec Ideal S32x64x1024 .f32) (ix3 b m n) = if g b n = m then 1 else 0 := by
  obtain ⟨i0, i1, i2, h31⟩ := index_get h3 g hg
  obtain ⟨h47, h48, h49, h50, h51, h52, hc11, h53, h54, -⟩ := h4
  have h47 : get V r_v47 = _ := h47
  have h48 : get V r_v48 = _ := h48
  have h49 : get V r_v49 = _ := h49
  have h50 : get V r_v50 = _ := h50
  have h51 : get V r_v51 = _ := h51
  have h52 : get V r_v52 = concatenate S32x1024x3 2 [⟨S32x1024x1, get V r_v49⟩, ⟨S32x1024x1, get V r_v50⟩, ⟨S32x1024x1, get V r_v51⟩]
    concatenates_S32x1024x1_S32x1024x1_S32x1024x1_S32x1024x3_d2 := h52
  have hc11 : get V r_cst_11 = _ := hc11
  have h53 : get V r_v53 = _ := h53
  have h54 : get V r_v54 = Host.scatter RefScatter.dims (fun _ b => b) (get V r_v31) (get V r_v52) (get V r_v53) := h54
  have e0 : ∀ (b : Fin 32) (n : Fin 1024), (get V r_v52 : IVec S32x1024x3 32) (ix3 b n 0) = BitVec.ofNat 32 b.val := by
    intro b n
    rw [h52, h49, h47]
    refine Eq.trans ?_ (i0 b)
    generalize (get V r_v36 : IVec S32x1 32) = x
    pointwise []
  have e1 : ∀ (b : Fin 32) (n : Fin 1024), (get V r_v52 : IVec S32x1024x3 32) (ix3 b n 1) = BitVec.ofNat 32 (g b n).val := by
    intro b n
    rw [h52, h50]
    refine Eq.trans ?_ (i1 b n)
    generalize (get V r_v41 : IVec S32x1024 32) = x
    pointwise []
  have e2 : ∀ (b : Fin 32) (n : Fin 1024), (get V r_v52 : IVec S32x1024x3 32) (ix3 b n 2) = BitVec.ofNat 32 n.val := by
    intro b n
    rw [h52, h51, h48]
    refine Eq.trans ?_ (i2 n)
    generalize (get V r_v46 : IVec S1x1024 32) = x
    pointwise []
  have eu : ∀ (b : Fin 32) (n : Fin 1024), (get V r_v53 : FVec Ideal S32x1024 .f32) (ix2 b n) = 1 := by
    intro b n
    rw [h53, hc11]
    exact Means.ofBits_one
  have ez : (get V r_v31 : FVec Ideal S32x64x1024 .f32) (ix3 b m n) = 0 := by
    rw [h31]
    exact Means.ofBits_zero
  rw [h54, RefScatter.scatter_at _ _ _ 1 g e0 e1 e2 eu, ez]

/-- The clusters' means. -/
theorem mean_get (h : Holds V m4) (b : Fin 32) (m : Fin 64) :
    (get V r_v63 : FVec Ideal S32x64 .f32) (ix2 b m)
      = Ideal.div (∑ n : Fin 1024, (get V r_v54 : FVec Ideal S32x64x1024 .f32) (ix3 b m n)
            * (get V r_arg1 : FVec Ideal S32x32x32 .f32) (ix3 b ⟨n.val / 32, by omega⟩ ⟨n.val % 32, by omega⟩))
          (∑ n : Fin 1024, (get V r_v54 : FVec Ideal S32x64x1024 .f32) (ix3 b m n) + Spec.eps6) := by
  obtain ⟨-, -, -, -, -, -, -, -, -, h55, h56, h57, h58, hc12, h59, hc13, h60, hc14, h61, h62, h63⟩ := h
  have h55 : get V r_v55 = _ := h55
  have h56 : get V r_v56 = _ := h56
  have h57 : get V r_v57 = _ := h57
  have h58 : get V r_v58 = _ := h58
  have hc12 : get V r_cst_12 = _ := hc12
  have h59 : get V r_v59 = _ := h59
  have hc13 : get V r_cst_13 = _ := hc13
  have h60 : get V r_v60 = _ := h60
  have hc14 : get V r_cst_14 = _ := hc14
  have h61 : get V r_v61 = _ := h61
  have h62 : get V r_v62 = _ := h62
  have h63 : get V r_v63 = _ := h63
  rw [h63, h62, h61, hc14, h60, hc13, h59, hc12, h58, h57, h56, h55]
  generalize (get V r_v54 : FVec Ideal S32x64x1024 .f32) = o
  generalize (get V r_arg1 : FVec Ideal S32x32x32 .f32) = l
  unfold Spec.eps6
  pointwise []

/-- The clusters' probabilities. -/
theorem keep_get (hr : Holds V (relu r_v63 main_call3)) (h5 : Holds V m5) (hc : Holds V (clip r_v66 r_cst_16 r_cst_17 main_call4))
    (b : Fin 32) (m : Fin 64) :
    (get V r_v67 : FVec Ideal S32x64 .f32) (ix2 b m)
      = min 1 (max 0 (1 - max ((get V r_v63 : FVec Ideal S32x64 .f32) (ix2 b m)) 0)) := by
  obtain ⟨k0, k1, k2⟩ := hr
  have k0 : get V main_call3.cst = _ := k0
  have k1 : get V main_call3.v0 = _ := k1
  have k2 : get V r_v64 = _ := k2
  obtain ⟨hc15, h65, h66, hc16, hc17⟩ := h5
  have hc15 : get V r_cst_15 = _ := hc15
  have h65 : get V r_v65 = _ := h65
  have h66 : get V r_v66 = _ := h66
  have hc16 : get V r_cst_16 = _ := hc16
  have hc17 : get V r_cst_17 = _ := hc17
  obtain ⟨c0, c1, c2, c3, c4, c5⟩ := hc
  have c0 : get V main_call4.v0 = _ := c0
  have c1 : get V main_call4.v1 = _ := c1
  have c2 : get V main_call4.v2 = _ := c2
  have c3 : get V main_call4.v3 = _ := c3
  have c4 : get V main_call4.v4 = _ := c4
  have c5 : get V r_v67 = _ := c5
  rw [c5, c4, c3, c2, c1, c0, hc17, hc16, h66, h65, hc15, k2, k1, k0]
  generalize (get V r_v63 : FVec Ideal S32x64 .f32) = x
  pointwise []
  show min (Ideal.ofBits .f32 0x3F800000#32) (max (Ideal.ofBits .f32 0x00000000#32) _) = _
  rw [Means.ofBits_one, Means.ofBits_zero]

/-- The comparison of a uniform number with a probability. -/
theorem drop_get (h : Holds V (bernoulli r_v74 r_v67 main_call5)) (b : Fin 32) (m : Fin 64) :
    (get V r_v75 : IVec S32x64 1) (ix2 b m)
      = Ideal.cmp .olt ((get V main_call5.call0.v34 : FVec Ideal S32x64 .f32) (ix2 b m)) ((get V r_v67 : FVec Ideal S32x64 .f32) (ix2 b m)) := by
  obtain ⟨-, h⟩ := Holds.append h
  obtain ⟨-, h⟩ := Holds.append h
  have h : get V r_v75 = _ := h
  rw [h]
  rfl

open Classical in
/-- The result. -/
theorem out_get (h : Holds V m7) (u k : Fin 32 → Fin 64 → EReal) (hd : ∀ b m, (get V r_v75 : IVec S32x64 1) (ix2 b m) = Ideal.cmp .olt (u b m) (k b m))
    (b i j : Fin 32) :
    (get V r_v81 : FVec Ideal S32x32x32 .f32) (ix3 b i j)
      = ∑ m : Fin 64, (get V r_v54 : FVec Ideal S32x64x1024 .f32) (ix3 b m ⟨i.val * 32 + j.val, by omega⟩)
          * (if u b m < k b m then 1 else 0) := by
  obtain ⟨h76, h77, h78, h79, hc, h80, h81⟩ := h
  have h76 : get V r_v76 = _ := h76
  have h77 : get V r_v77 = _ := h77
  have h78 : get V r_v78 = _ := h78
  have h79 : get V r_v79 = _ := h79
  have hc : get V r_cst_21 = _ := hc
  have h80 : get V r_v80 = _ := h80
  have h81 : get V r_v81 = _ := h81
  have e76 : ∀ b m, (get V r_v76 : FVec Ideal S32x64 .f32) (ix2 b m) = if u b m < k b m then 1 else 0 := by
    intro b m
    rw [h76]
    show (((((get V r_v75 : IVec S32x64 1) (ix2 b m)).toNat : ℝ)) : EReal) = _
    rw [hd]
    unfold Ideal.cmp
    by_cases e : u b m < k b m <;> simp [e]
  rw [h81, h80, hc, h79, h78, h77]
  simp only [← e76]
  generalize (get V r_v76 : FVec Ideal S32x64 .f32) = x
  generalize (get V r_v54 : FVec Ideal S32x64x1024 .f32) = o
  pointwise []

end Cert.Proof.RefTail

end
-- ==== Proof.RefRun.lean ====
/-
  The reference program is the line of `RefLine.lean`, and its run: every operation's equation holds of the final contents, and
  the two arguments are unchanged.
-/
module

public import proofs.«01_k».proof.Proof.RefLine

@[expose] public section

set_option maxRecDepth 65536
set_option maxHeartbeats 4000000

noncomputable section

namespace Cert.Proof.RefLine

open Cert.ReferenceIdeal Cert.ReferenceIdeal.Gen Cert.Line
open Idealize.ShloMosaic Idealize.ShloMosaic.TcCoe Idealize.ShloMosaic.StableHlo Idealize.SL.Sem

variable {F : FTy → Type} [FloatOps F]

/-- The function @threefry2x32 is its line, -/
theorem threefry_eq (arg0 arg1 arg2 arg3) (φ) :
    fn_threefry2x32.body (F := F) arg0 arg1 arg2 arg3 φ = seq ((threefry arg0 arg1 arg2 arg3 φ).map Asg.op) := rfl

/-- and @uniform, -/
theorem uniform_eq (arg0 arg1 arg2) (φ) :
    fn_uniform.body (F := F) arg0 arg1 arg2 φ = seq ((uniform arg0 arg1 arg2 φ).map Asg.op) := by
  unfold fn_uniform.body uniform
  rw [threefry_eq]
  simp only [List.map_append, seq_append]
  rfl

/-- and @bernoulli. -/
theorem bernoulli_eq (arg0 arg1) (φ) :
    fn_bernoulli.body (F := F) arg0 arg1 φ = seq ((bernoulli arg0 arg1 φ).map Asg.op) := by
  unfold fn_bernoulli.body bernoulli
  rw [uniform_eq]
  simp only [List.map_append, seq_append]
  rfl

/-- The first part of the main function is its line, -/
theorem partA_eq (d : Dev nD) : main_part0 (F := F) d = seq ((partA (F := F)).map Asg.op) := rfl

/-- and the second. -/
theorem partB_eq (d : Dev nD) : main_part1 (F := F) d = seq ((partB (F := F)).map Asg.op) := by
  unfold main_part1 partB
  rw [bernoulli_eq]
  simp only [List.map_append, seq_append]
  rfl

/-- The program is the line. -/
theorem main_eq (d : Dev nD) : main (F := F) d = seq ((line (F := F)).map Asg.op) := by
  unfold main line
  rw [partA_eq, partB_eq, List.map_append, seq_append]

/-- The line writes the buffers 2, 3, … in order, each operation reading smaller ones. -/
theorem line_ordered : ordered 2 (line (F := F)) = true := rfl

/-- The reference's run. -/
theorem run_line (m : (ℓ : Loc nD τ sig) → Buf (Elt F) ℓ) (ρ : Dev nD → PrngReg) :
    θ_run defs (onTc (τ := τ) main) ⟨m, fun _ => 0, ρ⟩ fun r => ∀ d : Dev nD, ∃ V : Valuation τ sig (Elt F),
      (∀ b : Ref sig .tc, r.2.mem ((d.tc : Thread nD τ).loc b) = V (Proc.devRef .tc b))
      ∧ ((line (F := F)).Forall fun a => a.eqn V)
      ∧ ∀ b : Ref sig .tc, num b < 2 → V (Proc.devRef .tc b) = m ((d.tc : Thread nD τ).loc b) :=
  Cert.Line.run (by decide) (by decide) defs main line 2 main_eq line_ordered m ρ

end Cert.Proof.RefLine

end
-- ==== Proof.RefValue.lean ====
/-
  The reference's result, from its arguments: at batch `b` and position `(i, j)` the mask of `Spec.lean`, with the block means as
  centres.
-/
module

public import proofs.«01_k».proof.Proof.RefHead
public import proofs.«01_k».proof.Proof.RefArgmax
public import proofs.«01_k».proof.Proof.RefUniform
public import proofs.«01_k».proof.Proof.RefTail
public import proofs.«01_k».proof.Proof.RefRun

@[expose] public section

set_option maxRecDepth 16384

noncomputable section

namespace Cert.Proof.RefValue

open Cert.ReferenceIdeal Cert.ReferenceIdeal.Gen Cert.Line Cert.Proof.RefLine Cert.Proof.RandWords
open Idealize.ShloMosaic Idealize.ShloMosaic.TcCoe Idealize.ShloMosaic.StableHlo Idealize.SL.Sem

variable {V : Valuation τ sig (Elt Ideal)}

/-- The result from the arguments, at batch `b` and the position numbered `n`. -/
def value (x : FVec Ideal S32x768x32x32 .f32) (lm : FVec Ideal S32x32x32 .f32) (b : Fin 32) (n : Fin 1024) : EReal :=
  Spec.out (Spec.onehot (Spec.sim (RefHead.mean x b) (Means.pt x b)))
    (fun i => lm (ix3 b ⟨i.val / 32, by omega⟩ ⟨i.val % 32, by omega⟩))
    (fun k => Ideal.ofBits .f32 (Cert.KernelIdeal.lit0t (b.val * 64 + k.val))) n

/-- Any contents that satisfy the reference's equations hold that value in the result. -/
theorem value_get (h : Holds V line) (b i j : Fin 32) :
    (get V r_v81 : FVec Ideal S32x32x32 .f32) (ix3 b i j)
      = value (get V r_arg0) (get V r_arg1) b ⟨i.val * 32 + j.val, by omega⟩ := by
  obtain ⟨hA, hB⟩ := Holds.append h
  obtain ⟨h0, h⟩ := Holds.append hA
  obtain ⟨hn, h⟩ := Holds.append h
  obtain ⟨h1, h⟩ := Holds.append h
  obtain ⟨hn0, h⟩ := Holds.append h
  obtain ⟨h2, h⟩ := Holds.append h
  obtain ⟨ha, h3⟩ := Holds.append h
  obtain ⟨h4, h⟩ := Holds.append hB
  obtain ⟨hr, h⟩ := Holds.append h
  obtain ⟨h5, h⟩ := Holds.append h
  obtain ⟨hc, h⟩ := Holds.append h
  obtain ⟨h6, h⟩ := Holds.append h
  obtain ⟨hbe, h7⟩ := Holds.append h
  have hs : ∀ b m n, _ := fun b m n => RefHead.head_get h0 hn h1 hn0 h2 b m n
  generalize hx : (get V r_arg0 : FVec Ideal S32x768x32x32 .f32) = x at hs
  let s (b : Fin 32) : Fin 64 → Fin 1024 → EReal := Spec.sim (RefHead.mean x b) (Means.pt x b)
  choose g hg using fun (b : Fin 32) (n : Fin 1024) => Spec.First.exists (fun k => s b k n)
  have hi : ∀ b n, (get V r_v26 : IVec S32x1024 32) (ix2 b n) = BitVec.ofNat 32 (g b n).val := fun b n =>
    RefArgmax.argmax_get ha b n (g b n) (by
      simp only [hs]
      exact hg b n)
  have ho : ∀ b m n, (get V r_v54 : FVec Ideal S32x64x1024 .f32) (ix3 b m n) = Spec.onehot (s b) m n := by
    intro b m n
    rw [RefTail.onehot_get h3 h4 g hi]
    unfold Spec.onehot
    by_cases e : g b n = m
    · rw [if_pos e, if_pos (e ▸ hg b n)]
    · rw [if_neg e, if_neg fun h => e (Spec.First.unique (hg b n) h)]
  obtain ⟨hb0, hb⟩ := Holds.append hbe
  obtain ⟨hun, -⟩ := Holds.append hb
  obtain ⟨hlo, hhi⟩ := hb0
  have hlo : get V main_call5.cst = _ := hlo
  have hhi : get V main_call5.cst_0 = _ := hhi
  obtain ⟨k0, k1⟩ := RefUniform.key_get h6
  have hu : ∀ b k, (get V main_call5.call0.v34 : FVec Ideal S32x64 .f32) (ix2 b k) = _ := fun b k =>
    RefUniform.uniform_get hun (by rw [hlo]; exact Means.ofBits_zero) (by rw [hhi]; exact Means.ofBits_one) k0 k1 b k
  have hk : ∀ b m, (get V r_v67 : FVec Ideal S32x64 .f32) (ix2 b m) = _ := fun b m => RefTail.keep_get hr h5 hc b m
  rw [RefTail.out_get h7 _ _ (RefTail.drop_get hbe)]
  unfold value Spec.out Spec.keep
  simp only [hu, hk, RefTail.mean_get h4, ho]
  rfl

/-- The reference's run: its result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ b i j : Fin 32, (r.2.mem ((c : Thread nD τ).loc main_v81) : FVec Ideal S32x32x32 .f32) (ix3 b i j)
          = value (m ((c : Thread nD τ).loc main_arg0)) (m ((c : Thread nD τ).loc main_arg1)) b ⟨i.val * 32 + j.val, by omega⟩)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨V, hm, he, ha⟩ := h c
    have a0 := ha main_arg0 (by decide)
    have a1 := ha main_arg1 (by decide)
    refine ⟨fun b i j => ?_, (hm main_arg0).trans a0, (hm main_arg1).trans a1⟩
    rw [← a0, ← a1]
    exact (congrFun (hm main_v81) (ix3 b i j)).trans (value_get he b i j)) (RefLine.run_line m ρ)

end Cert.Proof.RefValue

end
-- ==== Proof.Equal.lean ====
/-
  The two results are the same function of the arguments: the product with the pooling table, scaled by a sixteenth, is the block
  mean.
-/
module

public import proofs.«01_k».proof.Proof.PoolTable
public import proofs.«01_k».proof.Proof.KernelRun
public import proofs.«01_k».proof.Proof.RefValue

@[expose] public section

set_option maxRecDepth 16384

noncomputable section

namespace Cert.Proof.Equal

open Idealize.ShloMosaic

/-- What `PoolTable.lean` checks of the pooling table's words. -/
abbrev Table : Prop := ∀ i : Nat, i < 65536 → Cert.KernelIdeal.lit1t i
  = if PoolTable.blockOf (i / 64) = i % 64 then 0x3F800000#32 else 0x00000000#32

/-- A block mean, by the pooling table. -/
theorem mean_eq (h : Table) (x : FVec Ideal Cert.ReferenceIdeal.S32x768x32x32 .f32) (b : Fin 32) (d : Fin 768) (k : Fin 64) :
    (∑ i : Fin 1024, Means.pt x b d i * Ideal.ofBits .f32 (Cert.KernelIdeal.lit1t (i.val * 64 + k.val)))
        * Ideal.ofBits .f32 0x3D800000#32 = RefHead.mean x b d k := by
  rw [Means.mul_sixteenth]
  unfold RefHead.mean
  congr 1
  refine Finset.sum_congr rfl fun i _ => ?_
  rw [h _ (by omega), show (i.val * 64 + k.val) / 64 = i.val by omega, show (i.val * 64 + k.val) % 64 = k.val by omega]
  by_cases e : PoolTable.blockOf i.val = k.val
  · rw [if_pos e, if_pos (show Means.InBlock k.val i from e), Means.ofBits_one, mul_one]
  · rw [if_neg e, if_neg (show ¬ Means.InBlock k.val i from e), Means.ofBits_zero, mul_zero]

/-- The kernel's value is the reference's. -/
theorem value_eq (h : Table) (x : FVec Ideal Cert.ReferenceIdeal.S32x768x32x32 .f32)
    (lm : FVec Ideal Cert.ReferenceIdeal.S32x32x32 .f32) (b : Fin 32) (n : Fin 1024) :
    KernelRun.value x lm b n = RefValue.value x lm b n := by
  unfold KernelRun.value RefValue.value
  have e : (fun (d : Fin 768) (k : Fin 64) => (∑ i : Fin 1024, x (ix4 b d ⟨i.val / 32, by omega⟩ ⟨i.val % 32, by omega⟩)
        * Ideal.ofBits .f32 (Cert.KernelIdeal.lit1t (i.val * 64 + k.val))) * Ideal.ofBits .f32 0x3D800000#32)
      = RefHead.mean x b := funext fun d => funext fun k => mean_eq h x b d k
  rw [e]

end Cert.Proof.Equal

end
-- ==== Proof.Claims.lean ====
/-
  The claims, from the runs: the reference's frame, and the equality of the two results.
-/
module

public import proofs.«01_k».proof.Defs
public import proofs.«01_k».proof.Proof.Equal

@[expose] public section

set_option maxRecDepth 16384

noncomputable section

namespace Cert.Proof.Claims

open Idealize.ShloMosaic Idealize.ShloMosaic.TcCoe Idealize.SL.Sem

/-- The reference runs, leaves its arguments as they were and its semaphores at zero. -/
theorem frame_ref : quiescent_ReferenceIdeal (hReferenceIdeal := Cert.ReferenceIdeal.Gen.facts) := by
  intro m g _
  exact (θ_run _ _ _).mono (fun r h => ⟨fun c => (h c).2, sem_eq_zero_of_no_sems (by decide) r.2⟩) (RefValue.run m g)

/-- Two arrays equal at every index triple are equal. -/
theorem ext3 {x y : FVec Ideal Cert.ReferenceIdeal.S32x32x32 .f32} (h : ∀ b i j : Fin 32, x (ix3 b i j) = y (ix3 b i j)) : x = y := by
  funext k
  have e : k = ix3 (k 0) (k 1) (k 2) := funext fun a => by
    match a with
    | ⟨0, _⟩ => rfl
    | ⟨1, _⟩ => rfl
    | ⟨2, _⟩ => rfl
  rw [e]
  exact h _ _ _

/-- The result as an array. -/
def array (x : FVec Ideal Cert.ReferenceIdeal.S32x768x32x32 .f32) (lm : FVec Ideal Cert.ReferenceIdeal.S32x32x32 .f32) :
    FVec Ideal Cert.ReferenceIdeal.S32x32x32 .f32 := fun k =>
  RefValue.value x lm (k 0) ⟨(k 1).val * 32 + (k 2).val, by
    have h1 : (k 1).val < 32 := (k 1).isLt
    have h2 : (k 2).val < 32 := (k 2).isLt
    omega⟩

/-- From equal arguments the kernel and the reference end with equal results. -/
theorem algebraic (ht : Equal.Table) : algebraic_KernelIdeal_ReferenceIdeal (hKernelIdeal := Cert.KernelIdeal.Gen.facts)
    (hReferenceIdeal := Cert.ReferenceIdeal.Gen.facts) := by
  intro m g m' g' _ ha
  refine ⟨fun c => array (KernelRun.xArg m c) (KernelRun.lmArg m c), ?_, ?_⟩
  · refine (θ_run _ _ _).mono (fun r h c => ⟨ext3 fun b i j => ?_, (h c).2⟩) (KernelRun.run m g)
    exact ((h c).1 b i j).trans (Equal.value_eq ht _ _ _ _)
  · refine (θ_run _ _ _).mono (fun r h c => ⟨ext3 fun b i j => ?_, (h c).2⟩) (RefValue.run m' g')
    have h1 := (h c).1 b i j
    rw [(ha c).1, (ha c).2] at h1
    exact h1

end Cert.Proof.Claims

end
-- ==== Proof.PoolFirst.lean ====
/-
  The first quarter of the pooling table is as described in `PoolTable.lean`.
-/
module

public import proofs.«01_k».proof.Proof.PoolTable

@[expose] public section

set_option maxRecDepth 65536

namespace Cert.Proof.PoolTable

set_option maxHeartbeats 1600000 in
/-- The parts 0 to 3. -/
theorem quarter0 (k : Nat) (h : k / 4 = 0) : part k = true := by
  obtain rfl | rfl | rfl | rfl : k = 0 ∨ k = 1 ∨ k = 2 ∨ k = 3 := by omega
  all_goals decide +kernel

end Cert.Proof.PoolTable

end
-- ==== Proof.PoolSecond.lean ====
/-
  The second quarter of the pooling table is as described in `PoolTable.lean`.
-/
module

public import proofs.«01_k».proof.Proof.PoolTable

@[expose] public section

set_option maxRecDepth 65536

namespace Cert.Proof.PoolTable

set_option maxHeartbeats 1600000 in
/-- The parts 4 to 7. -/
theorem quarter1 (k : Nat) (h : k / 4 = 1) : part k = true := by
  obtain rfl | rfl | rfl | rfl : k = 4 ∨ k = 5 ∨ k = 6 ∨ k = 7 := by omega
  all_goals decide +kernel

end Cert.Proof.PoolTable

end
-- ==== Proof.PoolThird.lean ====
/-
  The third quarter of the pooling table is as described in `PoolTable.lean`.
-/
module

public import proofs.«01_k».proof.Proof.PoolTable

@[expose] public section

set_option maxRecDepth 65536

namespace Cert.Proof.PoolTable

set_option maxHeartbeats 1600000 in
/-- The parts 8 to 11. -/
theorem quarter2 (k : Nat) (h : k / 4 = 2) : part k = true := by
  obtain rfl | rfl | rfl | rfl : k = 8 ∨ k = 9 ∨ k = 10 ∨ k = 11 := by omega
  all_goals decide +kernel

end Cert.Proof.PoolTable

end
-- ==== Proof.PoolFourth.lean ====
/-
  The fourth quarter of the pooling table is as described in `PoolTable.lean`.
-/
module

public import proofs.«01_k».proof.Proof.PoolTable

@[expose] public section

set_option maxRecDepth 65536

namespace Cert.Proof.PoolTable

set_option maxHeartbeats 1600000 in
/-- The parts 12 to 15. -/
theorem quarter3 (k : Nat) (h : k / 4 = 3) : part k = true := by
  obtain rfl | rfl | rfl | rfl : k = 12 ∨ k = 13 ∨ k = 14 ∨ k = 15 := by omega
  all_goals decide +kernel

end Cert.Proof.PoolTable

end
-- ==== Proof.PoolEntry.lean ====
/-
  The pooling table's words, from the checks of its four quarters.
-/
module

public import proofs.«01_k».proof.Proof.PoolFirst
public import proofs.«01_k».proof.Proof.PoolSecond
public import proofs.«01_k».proof.Proof.PoolThird
public import proofs.«01_k».proof.Proof.PoolFourth

@[expose] public section

noncomputable section

namespace Cert.Proof.PoolTable

open Cert.KernelIdeal

theorem part_all (k : Nat) (hk : k < 16) : part k = true := by
  obtain h | h | h | h : k / 4 = 0 ∨ k / 4 = 1 ∨ k / 4 = 2 ∨ k / 4 = 3 := by omega
  · exact quarter0 k h
  · exact quarter1 k h
  · exact quarter2 k h
  · exact quarter3 k h

theorem check_of_lt (i : Nat) (hi : i < 65536) : check i = true := by
  have h := part_all (i / 4096) (by omega)
  have h1 := (List.all_eq_true.1 h) (i % 4096 / 128) (List.mem_range.2 (by omega))
  have h2 := (List.all_eq_true.1 h1) (i % 128) (List.mem_range.2 (by omega))
  rwa [show 4096 * (i / 4096) + (128 * (i % 4096 / 128) + i % 128) = i by omega] at h2

/-- The table's word at row-major position `i`. -/
theorem lit1t_eq (i : Nat) (hi : i < 65536) :
    lit1t i = if blockOf (i / 64) = i % 64 then 0x3F800000#32 else 0x00000000#32 := by
  have h := Nat.eq_of_beq_eq_true (check_of_lt i hi)
  apply BitVec.eq_of_toNat_eq
  rw [h]
  by_cases e : blockOf (i / 64) = i % 64
  · rw [if_pos e, show Nat.beq (blockOf (i / 64)) (i % 64) = true from by simpa using e]; rfl
  · rw [if_neg e, show Nat.beq (blockOf (i / 64)) (i % 64) = false from by
      rw [← Bool.not_eq_true]; exact fun h' => e (Nat.eq_of_beq_eq_true h')]; rfl

end Cert.Proof.PoolTable

end
-- ==== Proof.lean ====
/-
  The proof of `Cert.Claim`: the frames of the kernel, of its idealized text and of the reference, that the idealized text is the
  kernel's own, and that the kernel's result is the reference's on the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import proofs.«01_k».proof.Proof.PoolEntry
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    Claims.frame_ref, trivial, Claims.algebraic PoolTable.lit1t_eq⟩

end Cert.Proof

end
